-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_sqrt_160" .f32 0x3DA1E89B#32 (((Real.sqrt 160)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 2, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 2, 4] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 2, 4] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  bcast_S_S2048x128 : S_.BroadcastsInDim S2048x128 (![] : Fin 0 → Fin S2048x128.rank)
  bitsLt_bf16_f32 : FTy.bits .bf16 < FTy.bits .f32
  bcast_S_S128x2048 : S_.BroadcastsInDim S128x2048 (![] : Fin 0 → Fin S128x2048.rank)
  bcast_S_S2048x2048 : S_.BroadcastsInDim S2048x2048 (![] : Fin 0 → Fin S2048x2048.rank)
  bcast_S_S2048x512 : S_.BroadcastsInDim S2048x512 (![] : Fin 0 → Fin S2048x512.rank)
  bcast_S_S2048x32 : S_.BroadcastsInDim S2048x32 (![] : Fin 0 → Fin S2048x32.rank)

variable [Facts]

def fn_part1 {F : FTy → Type} [FloatOps F] (main_v2 : IVec S2x512x2048 1) (main_v5 : IVec S2048x128 1) (main_v9 : IVec S128x2048 1) (main_v12 : IVec S2048x2048 1) (main_v15 : IVec S2048x512 1) (main_v16 : FVec F S2048x32 .f32) (main_v17 : FVec F S2048x32 .f32) : IVec S2x512x2048 1 × IVec S2048x128 1 × IVec S128x2048 1 × IVec S2048x2048 1 × IVec S2048x512 1 × IVec S2048x32 1 :=
  let main_v18 : IVec S2048x32 1 := cmpf .olt main_v16 main_v17
  (main_v2, main_v5, main_v9, main_v12, main_v15, main_v18)

def fn {F : FTy → Type} [FloatOps F] (main_arg0 : FVec F S2x512x2048 .f32) (main_arg1 : FVec F S2048x128 .f32) (main_arg2 : FVec F S128x2048 .bf16) (main_arg3 : FVec F S128x2048 .bf16) (main_arg4 : FVec F S2048x2048 .f32) (main_arg5 : FVec F S2048x512 .f32) (main_arg6 : FVec F S2048x32 .f32) (main_arg7 : FVec F S2048x2048 .f32) : IVec S2x512x2048 1 × IVec S2048x128 1 × IVec S128x2048 1 × IVec S2048x2048 1 × IVec S2048x512 1 × IVec S2048x32 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_v3 : FVec F S2048x128 .f32 := Host.absf main_arg1
  let main_cst_0 : FVec F S_ .f32 := constant S_ .f32 0x7F800000#32
  let main_v4 : FVec F S2048x128 .f32 := broadcastInDim S2048x128 ![] bcast_S_S2048x128 main_cst_0
  let main_v5 : IVec S2048x128 1 := cmpf .olt main_v3 main_v4
  let main_v6 : FVec F S128x2048 .f32 := (extf .f32 · bitsLt_bf16_f32) main_arg2
  let main_v7 : FVec F S128x2048 .f32 := Host.absf main_v6
  let main_cst_1 : FVec F S_ .f32 := constant S_ .f32 0x7F800000#32
  let main_v8 : FVec F S128x2048 .f32 := broadcastInDim S128x2048 ![] bcast_S_S128x2048 main_cst_1
  let main_v9 : IVec S128x2048 1 := cmpf .olt main_v7 main_v8
  let main_v10 : FVec F S2048x2048 .f32 := Host.absf main_arg4
  let main_cst_2 : FVec F S_ .f32 := constant S_ .f32 0x7F800000#32
  let main_v11 : FVec F S2048x2048 .f32 := broadcastInDim S2048x2048 ![] bcast_S_S2048x2048 main_cst_2
  let main_v12 : IVec S2048x2048 1 := cmpf .olt main_v10 main_v11
  let main_v13 : FVec F S2048x512 .f32 := Host.absf main_arg5
  let main_cst_3 : FVec F S_ .f32 := constant S_ .f32 0x7F800000#32
  let main_v14 : FVec F S2048x512 .f32 := broadcastInDim S2048x512 ![] bcast_S_S2048x512 main_cst_3
  let main_v15 : IVec S2048x512 1 := cmpf .olt main_v13 main_v14
  let main_v16 : FVec F S2048x32 .f32 := Host.absf main_arg6
  let main_cst_4 : FVec F S_ .f32 := constant S_ .f32 0x7F800000#32
  let main_v17 : FVec F S2048x32 .f32 := broadcastInDim S2048x32 ![] bcast_S_S2048x32 main_cst_4
  fn_part1 (F := F) main_v2 main_v5 main_v9 main_v12 main_v15 main_v16 main_v17
-- ==== Pre_finite_scores_ReferenceIdeal.lean ====
abbrev S2x512x2048 : Shape := ⟨3, ![2, 512, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  bcast_S_S2048x256 : S_.BroadcastsInDim S2048x256 (![] : Fin 0 → Fin S2048x256.rank)
  bitsLt_bf16_f32 : FTy.bits .bf16 < FTy.bits .f32
  bcast_S_S256x2048 : S_.BroadcastsInDim S256x2048 (![] : Fin 0 → Fin S256x2048.rank)
  bcast_S_S2048x2048 : S_.BroadcastsInDim S2048x2048 (![] : Fin 0 → Fin S2048x2048.rank)
  bcast_S_S2048x512 : S_.BroadcastsInDim S2048x512 (![] : Fin 0 → Fin S2048x512.rank)
  bcast_S_S2048x32 : S_.BroadcastsInDim S2048x32 (![] : Fin 0 → Fin S2048x32.rank)

variable [Facts]

def fn_part1 {F : FTy → Type} [FloatOps F] (main_v2 : IVec S2x512x2048 1) (main_v5 : IVec S2048x256 1) (main_v9 : IVec S256x2048 1) (main_v12 : IVec S2048x2048 1) (main_v15 : IVec S2048x512 1) (main_v16 : FVec F S2048x32 .f32) (main_v17 : FVec F S2048x32 .f32) : IVec S2x512x2048 1 × IVec S2048x256 1 × IVec S256x2048 1 × IVec S2048x2048 1 × IVec S2048x512 1 × IVec S2048x32 1 :=
  let main_v18 : IVec S2048x32 1 := cmpf .olt main_v16 main_v17
  (main_v2, main_v5, main_v9, main_v12, main_v15, main_v18)

def fn {F : FTy → Type} [FloatOps F] (main_arg0 : FVec F S2x512x2048 .f32) (main_arg1 : FVec F S2048x256 .f32) (main_arg2 : FVec F S256x2048 .bf16) (main_arg3 : FVec F S256x2048 .bf16) (main_arg4 : FVec F S2048x2048 .f32) (main_arg5 : FVec F S2048x512 .f32) (main_arg6 : FVec F S2048x32 .f32) (main_arg7 : FVec F S2048x2048 .f32) : IVec S2x512x2048 1 × IVec S2048x256 1 × IVec S256x2048 1 × IVec S2048x2048 1 × IVec S2048x512 1 × IVec S2048x32 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_v3 : FVec F S2048x256 .f32 := Host.absf main_arg1
  let main_cst_0 : FVec F S_ .f32 := constant S_ .f32 0x7F800000#32
  let main_v4 : FVec F S2048x256 .f32 := broadcastInDim S2048x256 ![] bcast_S_S2048x256 main_cst_0
  let main_v5 : IVec S2048x256 1 := cmpf .olt main_v3 main_v4
  let main_v6 : FVec F S256x2048 .f32 := (extf .f32 · bitsLt_bf16_f32) main_arg2
  let main_v7 : FVec F S256x2048 .f32 := Host.absf main_v6
  let main_cst_1 : FVec F S_ .f32 := constant S_ .f32 0x7F800000#32
  let main_v8 : FVec F S256x2048 .f32 := broadcastInDim S256x2048 ![] bcast_S_S256x2048 main_cst_1
  let main_v9 : IVec S256x2048 1 := cmpf .olt main_v7 main_v8
  let main_v10 : FVec F S2048x2048 .f32 := Host.absf main_arg4
  let main_cst_2 : FVec F S_ .f32 := constant S_ .f32 0x7F800000#32
  let main_v11 : FVec F S2048x2048 .f32 := broadcastInDim S2048x2048 ![] bcast_S_S2048x2048 main_cst_2
  let main_v12 : IVec S2048x2048 1 := cmpf .olt main_v10 main_v11
  let main_v13 : FVec F S2048x512 .f32 := Host.absf main_arg5
  let main_cst_3 : FVec F S_ .f32 := constant S_ .f32 0x7F800000#32
  let main_v14 : FVec F S2048x512 .f32 := broadcastInDim S2048x512 ![] bcast_S_S2048x512 main_cst_3
  let main_v15 : IVec S2048x512 1 := cmpf .olt main_v13 main_v14
  let main_v16 : FVec F S2048x32 .f32 := Host.absf main_arg6
  let main_cst_4 : FVec F S_ .f32 := constant S_ .f32 0x7F800000#32
  let main_v17 : FVec F S2048x32 .f32 := broadcastInDim S2048x32 ![] bcast_S_S2048x32 main_cst_4
  fn_part1 (F := F) main_v2 main_v5 main_v9 main_v12 main_v15 main_v16 main_v17
-- ==== Kernel.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x2048 : Shape := ⟨2, ![1024, 2048]⟩
abbrev S1024x256 : Shape := ⟨2, ![1024, 256]⟩
abbrev S256x2048 : Shape := ⟨2, ![256, 2048]⟩
abbrev S32x512x32 : Shape := ⟨3, ![32, 512, 32]⟩
abbrev S2x512x32 : Shape := ⟨3, ![2, 512, 32]⟩
abbrev S2x2048x512 : Shape := ⟨3, ![2, 2048, 512]⟩
abbrev S3 : Shape := ⟨1, ![3]⟩
abbrev S2 : Shape := ⟨1, ![2]⟩
abbrev S_ : Shape := ⟨0, ![]⟩
abbrev S1 : Shape := ⟨1, ![1]⟩
abbrev S1x2048x512 : Shape := ⟨3, ![1, 2048, 512]⟩
abbrev S1024x128 : Shape := ⟨2, ![1024, 128]⟩
abbrev S1024x512 : Shape := ⟨2, ![1024, 512]⟩
abbrev S512x32 : Shape := ⟨2, ![512, 32]⟩
abbrev S1x512x32 : Shape := ⟨3, ![1, 512, 32]⟩
abbrev S1024x32 : Shape := ⟨2, ![1024, 32]⟩
abbrev S512x128 : Shape := ⟨2, ![512, 128]⟩
abbrev S512x160 : Shape := ⟨2, ![512, 160]⟩
abbrev S512x512 : Shape := ⟨2, ![512, 512]⟩
abbrev S512 : Shape := ⟨1, ![512]⟩
abbrev S512x1 : Shape := ⟨2, ![512, 1]⟩
abbrev S512x2048 : Shape := ⟨2, ![512, 2048]⟩
abbrev S1x512x512 : Shape := ⟨3, ![1, 512, 512]⟩

abbrev nBuf : Space → Nat
  | .hbm => 9
  | .vmem => 18
  | .smem => 0
  | _ => 0

abbrev bufTy : (tb : Table) → Fin (tcTables nBuf tb) → BufTy
  | .hbm, ⟨0, _⟩ => ⟨S2x512x2048, .f32⟩
  | .hbm, ⟨1, _⟩ => ⟨S2048x128, .f32⟩
  | .hbm, ⟨2, _⟩ => ⟨S128x2048, .bf16⟩
  | .hbm, ⟨3, _⟩ => ⟨S128x2048, .bf16⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S2x512x2048, .bf16⟩
  | .local _ .vmem, ⟨0, _⟩ => ⟨S2x512x2048, .f32⟩
  | .local _ .vmem, ⟨1, _⟩ => ⟨S2048x128, .f32⟩
  | .local _ .vmem, ⟨2, _⟩ => ⟨S128x2048, .bf16⟩
  | .local _ .vmem, ⟨3, _⟩ => ⟨S128x2048, .bf16⟩
  | .local _ .vmem, ⟨4, _⟩ => ⟨S2048x512, .f32⟩
  | .local _ .vmem, ⟨5, _⟩ => ⟨S2048x32, .f32⟩
  | .local _ .vmem, ⟨6, _⟩ => ⟨S2x512x2048, .bf16⟩
  | .local _ .vmem, ⟨7, _⟩ => ⟨S1024x2048, .bf16⟩
  | .local _ .vmem, ⟨8, _⟩ => ⟨S1024x256, .bf16⟩
  | .local _ .vmem, ⟨9, _⟩ => ⟨S256x2048, .bf16⟩
  | .local _ .vmem, ⟨10, _⟩ => ⟨S256x2048, .bf16⟩
  | .local _ .vmem, ⟨11, _⟩ => ⟨S1024x2048, .bf16⟩
  | .local _ .vmem, ⟨12, _⟩ => ⟨S32x512x32, .bf16⟩
  | .local _ .vmem, ⟨13, _⟩ => ⟨S2x512x32, .bf16⟩
  | .local _ .vmem, ⟨14, _⟩ => ⟨S1024x2048, .bf16⟩
  | .local _ .vmem, ⟨15, _⟩ => ⟨S1024x2048, .bf16⟩
  | .local _ .vmem, ⟨16, _⟩ => ⟨S1024x2048, .bf16⟩
  | .local _ .vmem, ⟨17, _⟩ => ⟨S2x2048x512, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_scratch10 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v17 : BitVec 32 := Scalar.muli v5 c128_i32
  let c0_i32_14 : BitVec 32 := 0#32
  ![v17.toNat, 0]
def k0_dev2 (d0 : Dev nD) : Nat :=
  let c0_i32_11 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v18 : BitVec 32 := Scalar.muli v2 c8_i32_10
  let v19 : BitVec 32 := Scalar.addi c0_i32_11 v18
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_12 : BitVec 32 := 4#32
  let v20 : BitVec 32 := Scalar.muli v9 c4_i32_12
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v22 : BitVec 32 := Scalar.muli v8 c1_i32_13
  let v23 : BitVec 32 := Scalar.addi v21 v22
  v23.toNat
def k0_dev3 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v29 : BitVec 32 := Scalar.muli v2 c8_i32_17
  let v30 : BitVec 32 := Scalar.addi c0_i32_18 v29
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_19 : BitVec 32 := 4#32
  let v31 : BitVec 32 := Scalar.muli v9 c4_i32_19
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v33 : BitVec 32 := Scalar.muli v8 c1_i32_20
  let v34 : BitVec 32 := Scalar.addi v32 v33
  v34.toNat
def k0_off2 (d0 : Dev nD) : Fin 2 → Nat :=
  let c0_36 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v17 : BitVec 32 := Scalar.muli v5 c128_i32
  let v58 : Index := Scalar.indexCast v17
  ![0, v58.toNat]
def k0_off3 (d0 : Dev nD) : Fin 2 → Nat :=
  let c0_i32_43 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v17 : BitVec 32 := Scalar.muli v5 c128_i32
  ![0, v17.toNat]
def k0_dev4 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_39 : BitVec 32 := 8#32
  let v62 : BitVec 32 := Scalar.muli v2 c8_i32_39
  let v63 : BitVec 32 := Scalar.addi c0_i32_40 v62
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_41 : BitVec 32 := 4#32
  let v64 : BitVec 32 := Scalar.muli v9 c4_i32_41
  let v65 : BitVec 32 := Scalar.addi v63 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v66 : BitVec 32 := Scalar.muli v8 c1_i32_42
  let v67 : BitVec 32 := Scalar.addi v65 v66
  v67.toNat
def k0_off4 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v17 : BitVec 32 := Scalar.muli v5 c128_i32
  let v76 : Index := Scalar.indexCast v17
  let c0_47 : Index := 0#32
  ![v76.toNat, 0]
abbrev stage0_0 : Fin 1 → Memref sig .tc .vmem S2x512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "inv_sqrt_160" => some (((Real.sqrt 160)⁻¹ : ℝ) : EReal)
  | _ => none
-- ==== ReferenceIdeal.lean ====
abbrev S2x512x2048 : Shape := ⟨3, ![2, 512, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S2x512x256 : Shape := ⟨3, ![2, 512, 256]⟩
abbrev S2x512x16x128 : Shape := ⟨4, ![2, 512, 16, 128]⟩
abbrev S2x512x512 : Shape := ⟨3, ![2, 512, 512]⟩
abbrev S2x512x16x32 : Shape := ⟨4, ![2, 512, 16, 32]⟩
abbrev S2x512x32 : Shape := ⟨3, ![2, 512, 32]⟩
abbrev S2x512x1x32 : Shape := ⟨4, ![2, 512, 1, 32]⟩
abbrev S_ : Shape := ⟨0, ![]⟩
abbrev S2x16x512x512 : Shape := ⟨4, ![2, 16, 512, 512]⟩
abbrev S2x16x512 : Shape := ⟨3, ![2, 16, 512]⟩
abbrev S2x16x512x1 : Shape := ⟨4, ![2, 16, 512, 1]⟩
abbrev S2x16x128x512 : Shape := ⟨4, ![2, 16, 128, 512]⟩

abbrev nBuf : Space → Nat
  | .hbm => 47
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2048x256, .f32⟩
  | .hbm, ⟨2, _⟩ => ⟨S256x2048, .bf16⟩
  | .hbm, ⟨3, _⟩ => ⟨S256x2048, .bf16⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S256x2048, .f32⟩
  | .hbm, ⟨9, _⟩ => ⟨S256x2048, .f32⟩
  | .hbm, ⟨10, _⟩ => ⟨S2x512x256, .f32⟩
  | .hbm, ⟨11, _⟩ => ⟨S2x512x2048, .f32⟩
  | .hbm, ⟨12, _⟩ => ⟨S2x512x16x128, .f32⟩
  | .hbm, ⟨13, _⟩ => ⟨S2x512x2048, .f32⟩
  | .hbm, ⟨14, _⟩ => ⟨S2x512x16x128, .f32⟩
  | .hbm, ⟨15, _⟩ => ⟨S2x512x2048, .f32⟩
  | .hbm, ⟨16, _⟩ => ⟨S2x512x16x128, .f32⟩
  | .hbm, ⟨17, _⟩ => ⟨S2x512x512, .f32⟩
  | .hbm, ⟨18, _⟩ => ⟨S2x512x16x32, .f32⟩
  | .hbm, ⟨19, _⟩ => ⟨S2x512x32, .f32⟩
  | .hbm, ⟨20, _⟩ => ⟨S2x512x1x32, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x16x512x512, .f32⟩
  | .hbm, ⟨26, _⟩ => ⟨S2x512x16x32, .f32⟩
  | .hbm, ⟨27, _⟩ => ⟨S2x16x512x512, .f32⟩
  | .hbm, ⟨28, _⟩ => ⟨S2x16x512x512, .f32⟩
  | .hbm, ⟨29, _⟩ => ⟨S2x16x512x512, .f32⟩
  | .hbm, ⟨30, _⟩ => ⟨S2x16x512x512, .f32⟩
  | .hbm, ⟨31, _⟩ => ⟨S_, .f32⟩
  | .hbm, ⟨32, _⟩ => ⟨S2x16x512, .f32⟩
  | .hbm, ⟨33, _⟩ => ⟨S2x16x512x1, .f32⟩
  | .hbm, ⟨34, _⟩ => ⟨S2x16x512x512, .f32⟩
  | .hbm, ⟨35, _⟩ => ⟨S2x16x512x512, .f32⟩
  | .hbm, ⟨36, _⟩ => ⟨S2x16x512x512, .f32⟩
  | .hbm, ⟨37, _⟩ => ⟨S_, .f32⟩
  | .hbm, ⟨38, _⟩ => ⟨S2x16x512, .f32⟩
  | .hbm, ⟨39, _⟩ => ⟨S2x16x512x1, .f32⟩
  | .hbm, ⟨40, _⟩ => ⟨S2x16x512x512, .f32⟩
  | .hbm, ⟨41, _⟩ => ⟨S2x16x512x512, .f32⟩
  | .hbm, ⟨42, _⟩ => ⟨S2x16x128x512, .f32⟩
  | .hbm, ⟨43, _⟩ => ⟨S2x512x16x128, .f32⟩
  | .hbm, ⟨44, _⟩ => ⟨S2x512x2048, .f32⟩
  | .hbm, ⟨45, _⟩ => ⟨S2x512x2048, .f32⟩
  | .hbm, ⟨46, _⟩ => ⟨S2x512x2048, .bf16⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Protocol.lean ====
/-
  The exchange of the kernel between a device and its partner along the `y` axis: the cells, the contents of the exchanged buffers as
  functions of the device, the round schedule of the seven cells, the levels, and what a device owes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ViewIndex

@[expose] public section

noncomputable section

namespace Cert.KernelIdeal.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The algebra -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev EB : Emb (UB × Counters) (MT nD τ sig Unit (Elt F) ℕ UU ℕ) := embR
def ER : Emb UB (MT nD τ sig Unit (Elt F) ℕ UU ℕ) := (Emb.inl : Emb UB (UB × Counters)).trans embR
instance ER_landsIn : (ER (F := F)).LandsIn (upEmb : UEmb _ (MT nD τ sig Unit (Elt F) ℕ UU ℕ)) := by unfold ER; infer_instance

abbrev 𝒱₀ : Variants := Variants.none

/-! ## The partner -/

/-- The device's place on the `y` axis. -/
def yb (c : Dev nD) : ℕ := (c.val / 4) % 2
theorem yb_lt (c : Dev nD) : yb c < 2 := Nat.mod_lt _ (by decide)

set_option backward.proofsInPublic true in
/-- The partner: the device with the other place on the `y` axis. -/
def ptn (c : Dev nD) : Dev nD := ⟨(8 * (c.val / 8) + c.val % 4 + 4) - 4 * ((c.val / 4) % 2), by revert c; decide⟩
theorem ptn_ptn (c : Dev nD) : ptn (ptn c) = c := by revert c; decide
theorem ptn_ne (c : Dev nD) : ptn c ≠ c := by revert c; decide
theorem yb_ptn (c : Dev nD) : yb (ptn c) = 1 - yb c := by revert c; decide

theorem dev1_eq (c : Dev nD) : (⟨k0_dev1 c, k0_dev1_lt c⟩ : Dev nD) = ptn c := Fin.ext (k0_dev1_eq c)
theorem dev2_eq (c : Dev nD) : (⟨k0_dev2 c, k0_dev2_lt c⟩ : Dev nD) = ptn c := Fin.ext (k0_dev2_eq c)
theorem dev3_eq (c : Dev nD) : (⟨k0_dev3 c, k0_dev3_lt c⟩ : Dev nD) = ptn c := Fin.ext (k0_dev3_eq c)
theorem dev4_eq (c : Dev nD) : (⟨k0_dev4 c, k0_dev4_lt c⟩ : Dev nD) = ptn c := Fin.ext (k0_dev4_eq c)

def swapY : Dev nD ≃ Dev nD := ⟨ptn, ptn, ptn_ptn, ptn_ptn⟩

/-- The device that holds half `k`: the one of the pair whose place is `k`. -/
def holder (c : Dev nD) (k : ℕ) : Dev nD := if k = yb c then c else ptn c
theorem holder_self (c : Dev nD) : holder c (yb c) = c := if_pos rfl
theorem holder_ptn (c : Dev nD) {k : ℕ} (hk : k < 2) : holder (ptn c) k = holder c k := by
  unfold holder
  rw [yb_ptn, ptn_ptn]
  have := yb_lt c
  split <;> split <;> first | rfl | omega

/-! ## The memrefs, the semaphores, the cells -/

abbrev cM : Memref sig .tc .vmem S1024x256 .bf16 := Memref.whole cc0_scratch1
abbrev ukM : Memref sig .tc .vmem S256x2048 .bf16 := Memref.whole cc0_scratch2
abbrev uvM : Memref sig .tc .vmem S256x2048 .bf16 := Memref.whole cc0_scratch3
abbrev wukM : Memref sig .tc .vmem S128x2048 .bf16 := Memref.whole cc0_stg2_0
abbrev wuvM : Memref sig .tc .vmem S128x2048 .bf16 := Memref.whole cc0_stg3_0

/-- Device `b`'s half of the three exchanged buffers. -/
abbrev hU (b : Dev nD) : Memref sig .tc .vmem S128x2048 .bf16 :=
  ukM.slice (Rect.unit (s := S256x2048) (k0_off1 b) S128x2048.size (k0_off1_inb b)) (fun _ => rfl)
abbrev hV (b : Dev nD) : Memref sig .tc .vmem S128x2048 .bf16 :=
  uvM.slice (Rect.unit (s := S256x2048) (k0_off1 b) S128x2048.size (k0_off1_inb b)) (fun _ => rfl)
abbrev hC (b : Dev nD) : Memref sig .tc .vmem S1024x128 .bf16 :=
  cM.slice (Rect.unit (s := S1024x256) (k0_off3 b) S1024x128.size (k0_off3_inb b)) (fun _ => rfl)

abbrev barS : Sem sig := (SemArray.scalar (sig.barrier 0 rfl) : Sems sig S_).sem
abbrev sd0 : DmaSem sig := ⟨7, by decide⟩
abbrev sd1 : DmaSem sig := ⟨8, by decide⟩
abbrev sd2 : DmaSem sig := ⟨9, by decide⟩
abbrev rv0 : DmaSem sig := ⟨10, by decide⟩
abbrev rv1 : DmaSem sig := ⟨11, by decide⟩
abbrev rv2 : DmaSem sig := ⟨12, by decide⟩

theorem sd0_eq : ((cc0_scratch11.slice (Rect.unit (s := S3) ![0] S1.size inb_S3_S1_0)).squeeze S_ squeezes_S1_S_).sem = sd0 := rfl
theorem sd1_eq : ((cc0_scratch11.slice (Rect.unit (s := S3) ![1] S1.size inb_S3_S1_1)).squeeze S_ squeezes_S1_S_).sem = sd1 := rfl
theorem sd2_eq : ((cc0_scratch11.slice (Rect.unit (s := S3) ![2] S1.size inb_S3_S1_2)).squeeze S_ squeezes_S1_S_).sem = sd2 := rfl
theorem rv0_eq : ((cc0_scratch12.slice (Rect.unit (s := S3) ![0] S1.size inb_S3_S1_0)).squeeze S_ squeezes_S1_S_).sem = rv0 := rfl
theorem rv1_eq : ((cc0_scratch12.slice (Rect.unit (s := S3) ![1] S1.size inb_S3_S1_1)).squeeze S_ squeezes_S1_S_).sem = rv1 := rfl
theorem rv2_eq : ((cc0_scratch12.slice (Rect.unit (s := S3) ![2] S1.size inb_S3_S1_2)).squeeze S_ squeezes_S1_S_).sem = rv2 := rfl

abbrev barC (c : Dev nD) : GSem nD τ sig := ((c : Thread nD τ), .reg barS)
abbrev dmaC (c : Dev nD) (q : DmaSem sig) : GSem nD τ sig := ((c : Thread nD τ), .dma q)

/-- The credit of a transfer of half of the latent, and of half of an up-projection. -/
abbrev NC : ℕ := (hC 0).view.dmaCredit
abbrev NU : ℕ := (hU 0).view.dmaCredit
theorem NC_pos : 0 < NC := View.dmaCredit_pos _ (by decide)
theorem NU_pos : 0 < NU := View.dmaCredit_pos _ (by decide)
theorem credit_hC (b : Dev nD) : (hC b).view.dmaCredit = NC := rfl
theorem credit_hU (b : Dev nD) : (hU b).view.dmaCredit = NU := rfl
theorem credit_hV (b : Dev nD) : (hV b).view.dmaCredit = NU := rfl
theorem credit_wuk : wukM.view.dmaCredit = NU := rfl
theorem credit_wuv : wuvM.view.dmaCredit = NU := rfl

/-! ## The contents of the exchanged buffers -/

/-- A multi-index of a matrix from its two coordinates. -/
def ix2 {a b : ℕ} (i j : ℕ) (hi : i < a) (hj : j < b) : (⟨2, ![a, b]⟩ : Shape).Idx :=
  fun k => match k with
    | ⟨0, _⟩ => ⟨i, hi⟩
    | ⟨1, _⟩ => ⟨j, hj⟩

theorem ix2_eta {a b : ℕ} (x : (⟨2, ![a, b]⟩ : Shape).Idx) (i j : ℕ) (hi : i < a) (hj : j < b) (h0 : (x 0).val = i) (h1 : (x 1).val = j) :
    x = ix2 i j hi hj := by
  funext k
  match k with
  | ⟨0, _⟩ => exact Fin.ext h0
  | ⟨1, _⟩ => exact Fin.ext h1

/-- Two halves, one above the other. -/
def stackU (W : Dev nD → Vec F S128x2048 .bf16) (c : Dev nD) : Vec F S256x2048 .bf16 := fun i =>
  W (holder c ((i 0).val / 128)) (ix2 ((i 0).val % 128) (i 1).val (Nat.mod_lt _ (by decide)) (i 1).isLt)
/-- Two halves, side by side. -/
def stackC (W : Dev nD → Vec F S1024x128 .bf16) (c : Dev nD) : Vec F S1024x256 .bf16 := fun i =>
  W (holder c ((i 1).val / 128)) (ix2 (i 0).val ((i 1).val % 128) (i 0).isLt (Nat.mod_lt _ (by decide)))

theorem stackU_ptn (W : Dev nD → Vec F S128x2048 .bf16) (c : Dev nD) : stackU W (ptn c) = stackU W c := by
  funext i; unfold stackU
  have h : (i 0).val < 256 := (i 0).isLt
  rw [holder_ptn c (by omega)]
theorem stackC_ptn (W : Dev nD → Vec F S1024x128 .bf16) (c : Dev nD) : stackC W (ptn c) = stackC W c := by
  funext i; unfold stackC
  have h : (i 1).val < 256 := (i 1).isLt
  rw [holder_ptn c (by omega)]

theorem off1_eq (b : Dev nD) : k0_off1 b = ![128 * yb b, 0] := k0_off1_eq b
theorem off3_eq (b : Dev nD) : k0_off3 b = ![0, 128 * yb b] := k0_off3_eq b
theorem off2_eq (b : Dev nD) : k0_off2 b = ![0, 128 * yb b] := k0_off2_eq b
theorem off4_eq (b : Dev nD) : k0_off4 b = ![128 * yb b, 0] := k0_off4_eq b

/-- The rows of device `b`'s half. -/
theorem embU_0 (b : Dev nD) (x : S128x2048.Idx) : (((hU b).view.emb x) 0).val = 128 * yb b + (x 0).val := by
  show k0_off1 b 0 + 1 * (x 0).val = _
  rw [off1_eq, Nat.one_mul]; rfl
theorem embU_1 (b : Dev nD) (x : S128x2048.Idx) : (((hU b).view.emb x) 1).val = (x 1).val := by
  show k0_off1 b 1 + 1 * (x 1).val = _
  rw [off1_eq, Nat.one_mul]; exact Nat.zero_add _
theorem embC_0 (b : Dev nD) (x : S1024x128.Idx) : (((hC b).view.emb x) 0).val = (x 0).val := by
  show k0_off3 b 0 + 1 * (x 0).val = _
  rw [off3_eq, Nat.one_mul]; exact Nat.zero_add _
theorem embC_1 (b : Dev nD) (x : S1024x128.Idx) : (((hC b).view.emb x) 1).val = 128 * yb b + (x 1).val := by
  show k0_off3 b 1 + 1 * (x 1).val = _
  rw [off3_eq, Nat.one_mul]; rfl

/-- The stack at an element of device `b`'s half is `b`'s value there. -/
theorem stackU_emb (W : Dev nD → Vec F S128x2048 .bf16) (b : Dev nD) (x : S128x2048.Idx) : stackU W b ((hU b).view.emb x) = W b x := by
  have h0 := embU_0 b x
  have h1 := embU_1 b x
  have hx : (x 0).val < 128 := (x 0).isLt
  unfold stackU
  have hd : (((hU b).view.emb x) 0).val / 128 = yb b := by omega
  rw [hd, holder_self]
  exact congrArg (W b) (ix2_eta x _ _ _ _ (by omega) h1.symm).symm
theorem stackC_emb (W : Dev nD → Vec F S1024x128 .bf16) (b : Dev nD) (x : S1024x128.Idx) : stackC W b ((hC b).view.emb x) = W b x := by
  have h0 := embC_0 b x
  have h1 := embC_1 b x
  have hx : (x 1).val < 128 := (x 1).isLt
  unfold stackC
  have hd : (((hC b).view.emb x) 1).val / 128 = yb b := by omega
  rw [hd, holder_self]
  exact congrArg (W b) (ix2_eta x _ _ _ _ h0.symm (by omega)).symm

/-- What a write of `b`'s value through `b`'s half leaves there is the stack. -/
theorem writeU (W : Dev nD → Vec F S128x2048 .bf16) (b : Dev nD) (fd : Vec F S256x2048 .bf16) :
    ∀ i ∈ (hU b).view.set, (hU b).view.write (Elt F) fd (W b) Finset.univ i = stackU W b i := by
  intro i hi
  obtain ⟨x, -, rfl⟩ := Finset.mem_map.mp hi
  refine View.eq_of_read_eq (v := (hU b).view) ?_
  rw [View.read_write_of_mem _ _ (Finset.mem_univ x)]
  exact (stackU_emb W b x).symm
theorem writeV (W : Dev nD → Vec F S128x2048 .bf16) (b : Dev nD) (fd : Vec F S256x2048 .bf16) :
    ∀ i ∈ (hV b).view.set, (hV b).view.write (Elt F) fd (W b) Finset.univ i = stackU W b i := by
  intro i hi
  obtain ⟨x, -, rfl⟩ := Finset.mem_map.mp hi
  refine View.eq_of_read_eq (v := (hV b).view) ?_
  rw [View.read_write_of_mem _ _ (Finset.mem_univ x)]
  exact (stackU_emb W b x).symm
theorem writeC (W : Dev nD → Vec F S1024x128 .bf16) (b : Dev nD) (fd : Vec F S1024x256 .bf16) :
    ∀ i ∈ (hC b).view.set, (hC b).view.write (Elt F) fd (W b) Finset.univ i = stackC W b i := by
  intro i hi
  obtain ⟨x, -, rfl⟩ := Finset.mem_map.mp hi
  refine View.eq_of_read_eq (v := (hC b).view) ?_
  rw [View.read_write_of_mem _ _ (Finset.mem_univ x)]
  exact (stackC_emb W b x).symm
theorem readC (W : Dev nD → Vec F S1024x128 .bf16) (b : Dev nD) : (hC b).view.read (Elt F) (stackC W b) = W b :=
  funext fun x => stackC_emb W b x

theorem mem_hU (b : Dev nD) (i : S256x2048.Idx) : i ∈ (hU b).view.set ↔ (i 0).val / 128 = yb b := by
  constructor
  · intro hi
    obtain ⟨x, -, rfl⟩ := Finset.mem_map.mp hi
    have h0 := embU_0 b x
    have hx : (x 0).val < 128 := (x 0).isLt
    omega
  · intro h
    have hi : (i 0).val < 256 := (i 0).isLt
    have : i = (hU b).view.emb (ix2 ((i 0).val % 128) (i 1).val (Nat.mod_lt _ (by decide)) (i 1).isLt) := by
      funext k
      match k with
      | ⟨0, _⟩ => exact Fin.ext (by rw [show ((hU b).view.emb _ ⟨0, _⟩).val = _ from embU_0 b _]; show (i 0).val = 128 * yb b + (i 0).val % 128; omega)
      | ⟨1, _⟩ => exact Fin.ext (by rw [show ((hU b).view.emb _ ⟨1, _⟩).val = _ from embU_1 b _]; rfl)
    rw [this]; exact View.emb_mem_set _ _
theorem mem_hC (b : Dev nD) (i : S1024x256.Idx) : i ∈ (hC b).view.set ↔ (i 1).val / 128 = yb b := by
  constructor
  · intro hi
    obtain ⟨x, -, rfl⟩ := Finset.mem_map.mp hi
    have h0 := embC_1 b x
    have hx : (x 1).val < 128 := (x 1).isLt
    omega
  · intro h
    have hi : (i 1).val < 256 := (i 1).isLt
    have : i = (hC b).view.emb (ix2 (i 0).val ((i 1).val % 128) (i 0).isLt (Nat.mod_lt _ (by decide))) := by
      funext k
      match k with
      | ⟨0, _⟩ => exact Fin.ext (by rw [show ((hC b).view.emb _ ⟨0, _⟩).val = _ from embC_0 b _]; rfl)
      | ⟨1, _⟩ => exact Fin.ext (by rw [show ((hC b).view.emb _ ⟨1, _⟩).val = _ from embC_1 b _]; show (i 1).val = 128 * yb b + (i 1).val % 128; omega)
    rw [this]; exact View.emb_mem_set _ _
theorem hV_set (b : Dev nD) : (hV b).view.set = (hU b).view.set := rfl

theorem disjU (c : Dev nD) : Disjoint (hU c).view.set (hU (ptn c)).view.set := by
  refine Finset.disjoint_left.mpr fun i h1 h2 => ?_
  have e1 := (mem_hU c i).mp h1
  have e2 := (mem_hU (ptn c) i).mp h2
  rw [yb_ptn] at e2
  have := yb_lt c
  omega
theorem disjC (c : Dev nD) : Disjoint (hC c).view.set (hC (ptn c)).view.set := by
  refine Finset.disjoint_left.mpr fun i h1 h2 => ?_
  have e1 := (mem_hC c i).mp h1
  have e2 := (mem_hC (ptn c) i).mp h2
  rw [yb_ptn] at e2
  have := yb_lt c
  omega
theorem unionU (c : Dev nD) : (hU c).view.set ∪ (hU (ptn c)).view.set = Finset.univ := by
  refine Finset.eq_univ_iff_forall.mpr fun i => Finset.mem_union.mpr ?_
  have hi : (i 0).val < 256 := (i 0).isLt
  have := yb_lt c
  rcases Nat.lt_or_ge 0 ((((i 0).val / 128 + yb c) % 2)) with h | h
  · exact .inr ((mem_hU (ptn c) i).mpr (by rw [yb_ptn]; omega))
  · exact .inl ((mem_hU c i).mpr (by omega))
theorem unionC (c : Dev nD) : (hC c).view.set ∪ (hC (ptn c)).view.set = Finset.univ := by
  refine Finset.eq_univ_iff_forall.mpr fun i => Finset.mem_union.mpr ?_
  have hi : (i 1).val < 256 := (i 1).isLt
  have := yb_lt c
  rcases Nat.lt_or_ge 0 ((((i 1).val / 128 + yb c) % 2)) with h | h
  · exact .inr ((mem_hC (ptn c) i).mpr (by rw [yb_ptn]; omega))
  · exact .inl ((mem_hC c i).mpr (by omega))

/-! ## The schedule

Over the values that are exchanged: the latent halves `wc`, the two up-projections' halves `wk` and `wv`. -/

variable (wc : Dev nD → Vec F S1024x128 .bf16) (wk wv : Dev nD → Vec F S128x2048 .bf16)

/-- A whole buffer of device `c` at contents `f`. -/
abbrev pt (c : Dev nD) (b : Ref sig .tc) (q : PosShare TreeShare) (f : Buf (Elt F) ((c : Thread nD τ).loc b)) : sProp 𝕄 :=
  iprop(((c : Thread nD τ).loc b) ↦{q} f)

/-- Device `b`'s half of a buffer of device `d`. -/
def halfC (d b : Dev nD) (f : Buf (Elt F) ((d : Thread nD τ).loc cc0_scratch1)) : sProp 𝕄 := iprop(((d : Thread nD τ).loc cc0_scratch1) ↦[(hC b).view.set]{fullShare} f)
def halfU (d b : Dev nD) (f : Buf (Elt F) ((d : Thread nD τ).loc cc0_scratch2)) : sProp 𝕄 := iprop(((d : Thread nD τ).loc cc0_scratch2) ↦[(hU b).view.set]{fullShare} f)
def halfV (d b : Dev nD) (f : Buf (Elt F) ((d : Thread nD τ).loc cc0_scratch3)) : sProp 𝕄 := iprop(((d : Thread nD τ).loc cc0_scratch3) ↦[(hV b).view.set]{fullShare} f)
/-- The left half share of the staged up-projections, lent to the transfers. -/
def lentK (c : Dev nD) : sProp 𝕄 := iprop(((c : Thread nD τ).loc cc0_stg2_0) ↦[wukM.view.set]{fullShare.left} (wk c : Buf (Elt F) ((c : Thread nD τ).loc cc0_stg2_0)))
def lentV (c : Dev nD) : sProp 𝕄 := iprop(((c : Thread nD τ).loc cc0_stg3_0) ↦[wuvM.view.set]{fullShare.left} (wv c : Buf (Elt F) ((c : Thread nD τ).loc cc0_stg3_0)))

instance halfC_storable (d b : Dev nD) (f) : BI.Storable (upEmb : UEmb _ 𝕄) (halfC (F := F) d b f) := by unfold halfC; infer_instance
instance halfU_storable (d b : Dev nD) (f) : BI.Storable (upEmb : UEmb _ 𝕄) (halfU (F := F) d b f) := by unfold halfU; infer_instance
instance halfV_storable (d b : Dev nD) (f) : BI.Storable (upEmb : UEmb _ 𝕄) (halfV (F := F) d b f) := by unfold halfV; infer_instance
instance lentK_storable (c : Dev nD) : BI.Storable (upEmb : UEmb _ 𝕄) (lentK wk c) := by unfold lentK; infer_instance
instance lentV_storable (c : Dev nD) : BI.Storable (upEmb : UEmb _ 𝕄) (lentV wv c) := by unfold lentV; infer_instance

/-- What the partner hands over with its barrier signal: its places for device `c`'s halves, and that it has reached
    its receive cells' round. -/
def barPay (c : Dev nD) : sProp 𝕄 :=
  iprop((∃ f, halfC (ptn c) c f) ∗ (∃ f, halfU (ptn c) c f) ∗ (∃ f, halfV (ptn c) c f)
    ∗ reached ER (dmaC (ptn c) rv0) 0 ∗ reached ER (dmaC (ptn c) rv1) 0 ∗ reached ER (dmaC (ptn c) rv2) 0)

instance barPay_storable (c : Dev nD) : BI.Storable (upEmb : UEmb _ 𝕄) (barPay (F := F) c) := by unfold barPay; infer_instance

/-- The number of a cell's semaphore: `0` for the barrier's, its own for a DMA semaphore. -/
def cellNo : SemLoc sig → ℕ
  | .reg _ => 0
  | .dma s => s.val

/-- The numbers of the cells that take part in a round. -/
def inRound (n : ℕ) : Prop := n = 0 ∨ (7 ≤ n ∧ n ≤ 12)
instance (n : ℕ) : Decidable (inRound n) := by unfold inRound; infer_instance

def amountTab : ℕ → ℕ
  | 0 => 1
  | 7 => NC
  | 10 => NC
  | _ => NU

def payTab (c : Dev nD) : ℕ → sProp 𝕄
  | 0 => barPay c
  | 7 => halfC c c (stackC wc c)
  | 8 => lentK wk c
  | 9 => lentV wv c
  | 10 => halfC c (ptn c) (stackC wc c)
  | 11 => halfU c (ptn c) (stackU wk c)
  | 12 => halfV c (ptn c) (stackU wv c)
  | _ => iprop(emp)

instance payTab_storable (c : Dev nD) (n : ℕ) : BI.Storable (upEmb : UEmb _ 𝕄) (payTab wc wk wv c n) := by
  unfold payTab; split <;> infer_instance

theorem amountTab_pos (n : ℕ) : 0 < amountTab n := by
  unfold amountTab
  split
  · exact Nat.one_pos
  · exact NC_pos
  · exact NC_pos
  · exact NU_pos

def Rd : Rounds.Schedule (GSem nD τ sig) Unit 𝕄 where
  duties g r := if r = 0 ∧ g.1.2 = .tc ∧ inRound (cellNo g.2) then {()} else ∅
  unitless _ := False
  amount g _ _ := amountTab (cellNo g.2)
  payload g _ _ := payTab wc wk wv g.1.1 (cellNo g.2)
  amount_pos g _ _ _ := amountTab_pos _

instance Rd_payload_storable (g : GSem nD τ sig) (r : ℕ) (d : Unit) : BI.Storable (upEmb : UEmb _ 𝕄) ((Rd wc wk wv).payload g r d) :=
  payTab_storable wc wk wv _ _

section Sched
variable (c : Dev nD)

theorem duties_at (s : SemLoc sig) (h : inRound (cellNo s)) : (Rd wc wk wv).duties ((c : Thread nD τ), s) 0 = {()} := by
  dsimp only [Rd]; exact if_pos ⟨rfl, rfl, h⟩
theorem mem_duties (s : SemLoc sig) (h : inRound (cellNo s)) : () ∈ (Rd wc wk wv).duties ((c : Thread nD τ), s) 0 := by
  rw [duties_at wc wk wv c s h]; exact Finset.mem_singleton_self _
theorem duties_later (g : GSem nD τ sig) : ∀ r, 1 ≤ r → (Rd wc wk wv).duties g r = ∅ :=
  fun r hr => by dsimp only [Rd]; rw [if_neg fun h => by omega]
theorem amount_at (g : GSem nD τ sig) (r : ℕ) (d : Unit) : (Rd wc wk wv).amount g r d = amountTab (cellNo g.2) := rfl
theorem expect_at (s : SemLoc sig) (h : inRound (cellNo s)) : (Rd wc wk wv).expect ((c : Thread nD τ), s) 0 = amountTab (cellNo s) := by
  unfold Schedule.expect Schedule.amountOf; rw [duties_at wc wk wv c s h, Finset.sum_singleton]; rfl
theorem rest_at (s : SemLoc sig) (h : inRound (cellNo s)) :
    bigSep ((Rd wc wk wv).duties ((c : Thread nD τ), s) 0 \ ∅) (fun d => (Rd wc wk wv).payload ((c : Thread nD τ), s) 0 d)
      = payTab wc wk wv c (cellNo s) := by
  rw [Finset.sdiff_empty, duties_at wc wk wv c s h, bigSep_singleton]; rfl

end Sched

/-! ## What a device owes; the levels -/

/-- Innermost first: the partner's receive cells of the latent, of the second and of the first up-projection, and its barrier cell. -/
def O₃ (c : Dev nD) : CellTallies nD τ sig Unit := tallyAt (dmaC (ptn c) rv0) () NC
def O₂ (c : Dev nD) : CellTallies nD τ sig Unit := O₃ c + tallyAt (dmaC (ptn c) rv2) () NU
def O₁ (c : Dev nD) : CellTallies nD τ sig Unit := O₂ c + tallyAt (dmaC (ptn c) rv1) () NU
def O₀ (c : Dev nD) : CellTallies nD τ sig Unit := O₁ c + tallyAt (barC (ptn c)) () 1

def L (g : GSem nD τ sig) : Finset Unit := if g.1.2 = .tc then {()} else ∅
/-- The level of a cell: the receive cells above the barrier's, it above all others. -/
def level : SemLoc sig → ℕ
  | .reg _ => 1
  | .dma q => if q.val = 10 ∨ q.val = 11 ∨ q.val = 12 then 2 else 0
def lv (g : GSem nD τ sig) (_ : Unit) : ℕ := level g.2

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) :
    g = dmaC (ptn c) rv0 ∨ g = dmaC (ptn c) rv2 ∨ g = dmaC (ptn c) rv1 := by
  unfold O₁ O₂ O₃ at h
  rw [Pi.add_apply, Finsupp.add_apply, Pi.add_apply, Finsupp.add_apply, tallyAt_apply, tallyAt_apply, tallyAt_apply] at h
  by_contra hn; rw [not_or, not_or] at hn
  rw [if_neg (fun h' => hn.1 h'.1), if_neg (fun h' => hn.2.1 h'.1), if_neg (fun h' => hn.2.2 h'.1)] at h
  exact Nat.lt_irrefl 0 h
theorem O₀_pos {c : Dev nD} {g : GSem nD τ sig} {u : Unit} (h : 0 < O₀ c g u) :
    (g = dmaC (ptn c) rv0 ∨ g = dmaC (ptn c) rv2 ∨ g = dmaC (ptn c) rv1) ∨ g = barC (ptn c) := by
  unfold O₀ at h
  rw [Pi.add_apply, Finsupp.add_apply, tallyAt_apply] at h
  by_contra hn; rw [not_or] at hn
  rw [if_neg (fun h' => hn.2 h'.1), Nat.add_zero] at h
  exact hn.1 (O₁_pos h)

/-- A wait on a cell of level `0` under all that a device ever owes. -/
theorem mayWait_stage (c : Dev nD) (q : DmaSem sig) (hq : level (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with (rfl | rfl | rfl) | rfl <;> exact Finset.mem_singleton_self _)
      (fun p hp => by rw [Finset.mem_singleton.mp hp]; exact Nat.le_of_eq hq)
      (fun g u hg => by rcases O₀_pos hg with (rfl | rfl | rfl) | rfl <;> exact Nat.zero_lt_succ _)
  · rw [MayWait_zero]; iintro -; iempintro

/-- At its barrier wait a device owes the three receive credits. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl | rfl <;> exact Finset.mem_singleton_self _)
    (fun p hp => by rw [Finset.mem_singleton.mp hp]; exact Nat.le_refl 1)
    (fun g u hg => by rcases O₁_pos hg with rfl | rfl | rfl <;> exact Nat.lt_succ_self 1)

end Cert.KernelIdeal.Mla
-- ==== Proof.Split.lean ====
module

public import proofs.«01_k».proof.Proof.Protocol

@[expose] public section

noncomputable section

namespace Cert.KernelIdeal.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The part of the body before the first copy of a block of the output projection. -/
def headA : Prog (TpuEff nD τ sig (Elt F) Λ₀ .tc) PUnit := do
  let ⟨d0, v2, v8, v9, v17, v29, c0_i32_18⟩ : Σ' (d0 : Dev nD) (v2 : BitVec 32) (v8 : BitVec 32) (v9 : BitVec 32) (v17 : BitVec 32) (v29 : BitVec 32), BitVec 32 ← k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13
  let v62 : BitVec 32 ← k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 d0 v2 v8 v9 v17 v29 c0_i32_18
  k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 d0 v8 v9 v17 v62
  let v123 : FVec F S1024x512 .f32 ← k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13
  k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v123
  let ⟨v171, v183⟩ : Σ' (v171 : FVec F S1024x512 .f32), FVec F S512x32 .bf16 ← k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13
  let v217 : FVec F S512x32 .f32 ← k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v171 v183
  let v248 : FVec F S512x32 .bf16 ← k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v171 v217
  let v283 : FVec F S512x32 .bf16 ← k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v171 v248
  let v317 : FVec F S512x32 .f32 ← k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v171 v283
  k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v171 v317
  let v376 : BitVec 32 ← k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 d0 v2 v8 v9
  let v382 : DmaSems sig S1 := cc0_scratch12.slice (Rect.unit (s := S3) ![2] S1.size inb_S3_S1_2)
  let v383 : DmaSems sig S_ := v382.squeeze S_ squeezes_S1_S_
  let v384 : Memref sig .tc .vmem S128x2048 .bf16 := (Memref.whole cc0_scratch3).slice (Rect.unit (s := S256x2048) (k0_off1 d0) S128x2048.size (k0_off1_inb d0)) (fun _ => rfl)
  Prog.lift (.waitDma2 v383.sem (Memref.whole cc0_stg3_0) v384 (Memref.isWhole_whole _).wordExact ((Memref.isWhole_whole _).wordExact_slice rfl _ (k0_off1_wordsbf16 d0)))
  let v385 : Vec F S1024x256 .bf16 ← Prog.lift (.load (Memref.whole cc0_scratch1) (Rect.unit (s := S1024x256) ![0, 0] S1024x256.size inb_S1024x256_S1024x256_0_0).toLoadRect (View.loadsAt_vmem h_S1024x256))
  let v386 : Vec F S256x2048 .bf16 ← Prog.lift (.load (Memref.whole cc0_scratch2) (Rect.unit (s := S256x2048) ![0, 0] S256x2048.size inb_S256x2048_S256x2048_0_0).toLoadRect (View.loadsAt_vmem h_S256x2048))
  let v389 : Vec F S1024x2048 .bf16 ← Prog.lift (.load (Memref.whole cc0_scratch7) (Rect.unit (s := S1024x2048) ![0, 0] S1024x2048.size inb_S1024x2048_S1024x2048_0_0).toLoadRect (View.loadsAt_vmem h_S1024x2048))
  Prog.lift (.store (Memref.whole cc0_scratch7) (Rect.unit (s := S1024x2048) ![0, 0] S1024x2048.size inb_S1024x2048_S1024x2048_0_0) (k0_pay52 v385 v386) Finset.univ (View.stores_vmem h_S1024x2048 ((Memref.isWhole_whole _).storeExact_slice rfl _ packedbf16_S1024x2048_S1024x2048_0_0) (fun _ => rfl)) (.inl rfl))
  let v392 : Vec F S1024x256 .bf16 ← Prog.lift (.load (Memref.whole cc0_scratch1) (Rect.unit (s := S1024x256) ![0, 0] S1024x256.size inb_S1024x256_S1024x256_0_0).toLoadRect (View.loadsAt_vmem h_S1024x256))
  let v393 : Vec F S256x2048 .bf16 ← Prog.lift (.load (Memref.whole cc0_scratch3) (Rect.unit (s := S256x2048) ![0, 0] S256x2048.size inb_S256x2048_S256x2048_0_0).toLoadRect (View.loadsAt_vmem h_S256x2048))
  let v396 : Vec F S1024x2048 .bf16 ← Prog.lift (.load (Memref.whole cc0_scratch8) (Rect.unit (s := S1024x2048) ![0, 0] S1024x2048.size inb_S1024x2048_S1024x2048_0_0).toLoadRect (View.loadsAt_vmem h_S1024x2048))
  Prog.lift (.store (Memref.whole cc0_scratch8) (Rect.unit (s := S1024x2048) ![0, 0] S1024x2048.size inb_S1024x2048_S1024x2048_0_0) (k0_pay53 v392 v393) Finset.univ (View.stores_vmem h_S1024x2048 ((Memref.isWhole_whole _).storeExact_slice rfl _ packedbf16_S1024x2048_S1024x2048_0_0) (fun _ => rfl)) (.inl rfl))
  pure ⟨⟩

/-- The part of the body from the first copy of a block of the output projection on. -/
def restB : Prog (TpuEff nD τ sig (Elt F) Λ₀ .tc) PUnit := do
  let v399 : DmaSems sig S1 := cc0_scratch13.slice (Rect.unit (s := S2) ![0] S1.size inb_S2_S1_0)
  let v400 : DmaSems sig S_ := v399.squeeze S_ squeezes_S1_S_
  let v401 : Memref sig .tc .vmem S1x2048x512 .f32 := (Memref.whole cc0_scratch10).slice (Rect.unit (s := S2x2048x512) ![0, 0, 0] S1x2048x512.size inb_S2x2048x512_S1x2048x512_0_0_0) (fun _ => rfl)
  let v402 : Memref sig .tc .vmem S2048x512 .f32 := v401.squeeze S2048x512 squeezes_S1x2048x512_S2048x512
  let v403 : Memref sig .tc .hbm S2048x512 .f32 := (Memref.whole main_arg7).slice (Rect.unit (s := S2048x2048) ![0, 0] S2048x512.size inb_S2048x2048_S2048x512_0_0) (fun _ => rfl)
  Prog.lift (.enqueueDma v403 (.here v402) (.dma v400.sem) (View.wordExact_bits rfl) ((View.wordExact_bits rfl).reshape _ _) ⟨Or.inl rfl, trivial⟩)
  let ⟨v433, v434, v435⟩ : Σ' (v433 : Vec F S512x128 .bf16) (v434 : Vec F S512x128 .bf16), Vec F S512x128 .bf16 ← k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13
  let ⟨v459, v468, v469⟩ : Σ' (v459 : Vec F S512x128 .bf16) (v468 : FVec F S512x512 .bf16), FVec F S512x512 .f32 ← k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v433 v434 v435
  k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v459 v468 v469
  let ⟨v530, v531, v534⟩ : Σ' (v530 : Vec F S512x128 .bf16) (v531 : Vec F S512x128 .bf16), FVec F S512x160 .bf16 ← k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13
  let ⟨v568, v571⟩ : Σ' (v568 : FVec F S512x128 .f32), FVec F S512x128 .f32 ← k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v530 v531 v534
  let ⟨v601, v602, v603⟩ : Σ' (v601 : Vec F S512x128 .bf16) (v602 : Vec F S512x128 .bf16), Vec F S512x128 .bf16 ← k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v568 v571
  let ⟨v627, v636, v637⟩ : Σ' (v627 : Vec F S512x128 .bf16) (v636 : FVec F S512x512 .bf16), FVec F S512x512 .f32 ← k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v601 v602 v603
  k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v627 v636 v637
  let ⟨v698, v699, v702⟩ : Σ' (v698 : Vec F S512x128 .bf16) (v699 : Vec F S512x128 .bf16), FVec F S512x160 .bf16 ← k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13
  let ⟨v736, v738⟩ : Σ' (v736 : FVec F S512x128 .f32), FVec F S512x1 .f32 ← k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v698 v699 v702
  let ⟨v769, v770⟩ : Σ' (v769 : Vec F S512x128 .bf16), Vec F S512x128 .bf16 ← k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v736 v738
  let ⟨v795, v804⟩ : Σ' (v795 : Vec F S512x128 .bf16), FVec F S512x512 .bf16 ← k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v769 v770
  let v840 : FVec F S512x128 .bf16 ← k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v795 v804
  let ⟨v866, v867, v870⟩ : Σ' (v866 : Vec F S512x128 .bf16) (v867 : Vec F S512x128 .bf16), FVec F S512x160 .bf16 ← k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v840
  let ⟨v903, v904, v905⟩ : Σ' (v903 : FVec F S512x1 .f32) (v904 : FVec F S512x128 .f32), FVec F S512x1 .f32 ← k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v866 v867 v870
  let ⟨v937, v938⟩ : Σ' (v937 : Vec F S512x128 .bf16), Vec F S512x128 .bf16 ← k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v903 v904 v905
  let ⟨v963, v971⟩ : Σ' (v963 : Vec F S512x128 .bf16), FVec F S512x512 .bf16 ← k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v937 v938
  let v1005 : FVec F S512x128 .bf16 ← k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v963 v971
  let ⟨v1034, v1035, v1038⟩ : Σ' (v1034 : Vec F S512x128 .bf16) (v1035 : Vec F S512x128 .bf16), FVec F S512x160 .bf16 ← k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v1005
  let ⟨v1071, v1072, cst_755⟩ : Σ' (v1071 : FVec F S512x1 .f32) (v1072 : FVec F S512x128 .f32), F .f32 ← k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v1034 v1035 v1038
  let ⟨v1105, v1106⟩ : Σ' (v1105 : Vec F S512x128 .bf16), Vec F S512x128 .bf16 ← k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v1071 v1072 cst_755
  let ⟨v1131, v1138⟩ : Σ' (v1131 : Vec F S512x128 .bf16), FVec F S512x512 .f32 ← k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v1105 v1106
  let ⟨v1173, v1174⟩ : Σ' (v1173 : FVec F S512x128 .bf16), Vec F S512x128 .bf16 ← k0_part36 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v1131 v1138
  k0_part37 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v1173 v1174
  k0_part38 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13
  let ⟨v1254, v1255⟩ : Σ' (v1254 : FVec F S2048x512 .bf16), Vec F S512x2048 .bf16 ← k0_part39 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13
  let v1258 : Vec F S1x512x512 .bf16 ← Prog.lift (.load (Memref.whole cc0_stg6_0) (Rect.unit (s := S2x512x2048) ![0, 0, 1536] S1x512x512.size inb_S2x512x2048_S1x512x512_0_0_1536).toLoadRect (View.loadsAt_vmem h_S1x512x512))
  Prog.lift (.store (Memref.whole cc0_stg6_0) (Rect.unit (s := S2x512x2048) ![0, 0, 1536] S1x512x512.size inb_S2x512x2048_S1x512x512_0_0_1536) (k0_pay122 v1254 v1255) Finset.univ (View.stores_vmem h_S1x512x512 ((Memref.isWhole_whole _).storeExact_slice rfl _ packedbf16_S2x512x2048_S1x512x512_0_0_1536) (fun _ => rfl)) (.inl rfl))
  let v1261 : Vec F S512x2048 .bf16 ← Prog.lift (.load (Memref.whole cc0_scratch9) (Rect.unit (s := S1024x2048) ![512, 0] S512x2048.size inb_S1024x2048_S512x2048_512_0).toLoadRect (View.loadsAt_vmem h_S512x2048))
  let v1264 : Vec F S1x512x512 .bf16 ← Prog.lift (.load (Memref.whole cc0_stg6_0) (Rect.unit (s := S2x512x2048) ![1, 0, 1536] S1x512x512.size inb_S2x512x2048_S1x512x512_1_0_1536).toLoadRect (View.loadsAt_vmem h_S1x512x512))
  Prog.lift (.store (Memref.whole cc0_stg6_0) (Rect.unit (s := S2x512x2048) ![1, 0, 1536] S1x512x512.size inb_S2x512x2048_S1x512x512_1_0_1536) (k0_pay1 (k0_pay123 v1254 v1261)) Finset.univ (View.stores_vmem h_S1x512x512 ((Memref.isWhole_whole _).storeExact_slice rfl _ packedbf16_S2x512x2048_S1x512x512_1_0_1536) (fun _ => rfl)) (.inl rfl))

/-- The kernel's body at the launch's buffers. -/
abbrev bodyP : Prog (TpuEff nD τ sig (Elt F) Λ₀ .tc) PUnit :=
  cc0__body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13

set_option maxRecDepth 65536 in
theorem body_split : bodyP (F := F) = headA >>= fun _ => restB := by
  unfold bodyP headA restB
  rw [cc0__body_eq_skeleton]; unfold cc0__body_skel
  rw [k0_part40_eq_skeleton]; unfold k0_part40_skel
  rw [k0_part13_eq_skeleton]; unfold k0_part13_skel
  simp only [Prog.lift, Prog.bind_op, Prog.bind_ret, Prog.pure_eq_ret, Prog.bind_assoc]

end Cert.KernelIdeal.Mla
-- ==== Proof.Rules.lean ====
module

public import proofs.«01_k».proof.Proof.Split

@[expose] public section

noncomputable section

namespace Cert.KernelIdeal.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- A whole buffer of device `c`, in the form a run reads. -/
def held (c : Dev nD) (b : Ref sig .tc) (q : PosShare TreeShare) (f : Buf (Elt F) ((c : Thread nD τ).loc b)) : sProp 𝕄 :=
  (Memref.whole b).view.loc (c : Thread nD τ) ↦{q} f

variable (wc : Dev nD → Vec F S1024x128 .bf16) (wk wv : Dev nD → Vec F S128x2048 .bf16)

/-- The cells a device reaches: its own seven, its partner's barrier and receive cells. -/
def invs (K : Dev nD × Fin 7 → ℕ) (c : Dev nD) : sProp 𝕄 :=
  iprop(cellInv ER (Rd wc wk wv) (K (c, 0)) (barC c)
    ∗ cellInv ER (Rd wc wk wv) (K (c, 1)) (dmaC c sd0) ∗ cellInv ER (Rd wc wk wv) (K (c, 2)) (dmaC c sd1) ∗ cellInv ER (Rd wc wk wv) (K (c, 3)) (dmaC c sd2)
    ∗ cellInv ER (Rd wc wk wv) (K (c, 4)) (dmaC c rv0) ∗ cellInv ER (Rd wc wk wv) (K (c, 5)) (dmaC c rv1) ∗ cellInv ER (Rd wc wk wv) (K (c, 6)) (dmaC c rv2)
    ∗ cellInv ER (Rd wc wk wv) (K (ptn c, 0)) (barC (ptn c))
    ∗ cellInv ER (Rd wc wk wv) (K (ptn c, 4)) (dmaC (ptn c) rv0) ∗ cellInv ER (Rd wc wk wv) (K (ptn c, 5)) (dmaC (ptn c) rv1)
    ∗ cellInv ER (Rd wc wk wv) (K (ptn c, 6)) (dmaC (ptn c) rv2))

instance invs_persistent (K : Dev nD × Fin 7 → ℕ) (c : Dev nD) : BI.Persistent (invs wc wk wv K c) := by unfold invs; infer_instance

/-- The tokens device `c` pays with: the partner's barrier and receive duties, its own send duties. -/
def payToks (c : Dev nD) : sProp 𝕄 :=
  iprop(dutyTok ER (barC (ptn c)) 0 () ∗ dutyTok ER (dmaC (ptn c) rv0) 0 () ∗ dutyTok ER (dmaC (ptn c) rv1) 0 () ∗ dutyTok ER (dmaC (ptn c) rv2) 0 ()
    ∗ dutyTok ER (dmaC c sd0) 0 () ∗ dutyTok ER (dmaC c sd1) 0 () ∗ dutyTok ER (dmaC c sd2) 0 ())

def ghost (K : Dev nD × Fin 7 → ℕ) (c : Dev nD) : sProp 𝕄 :=
  iprop(invs wc wk wv K c
    ∗ atPos ER (barC c) 0 ∅ 0 ∗ atPos ER (dmaC c sd0) 0 ∅ 0 ∗ atPos ER (dmaC c sd1) 0 ∅ 0 ∗ atPos ER (dmaC c sd2) 0 ∅ 0
    ∗ atPos ER (dmaC c rv0) 0 ∅ 0 ∗ atPos ER (dmaC c rv1) 0 ∅ 0 ∗ atPos ER (dmaC c rv2) 0 ∅ 0
    ∗ reached ER (barC (ptn c)) 0
    ∗ reached ER (dmaC c sd0) 0 ∗ reached ER (dmaC c sd1) 0 ∗ reached ER (dmaC c sd2) 0
    ∗ reached ER (dmaC c rv0) 0 ∗ reached ER (dmaC c rv1) 0 ∗ reached ER (dmaC c rv2) 0
    ∗ payToks c)

/-- What a device starts its body with besides its buffers. -/
def startG (K : Dev nD × Fin 7 → ℕ) (c : Dev nD) : sProp 𝕄 :=
  iprop(ghost wc wk wv K c ∗ cred (tallyAt (barC c) () 1) ∗ cred (tallyAt (dmaC c rv0) () NC) ∗ cred (tallyAt (dmaC c rv1) () NU)
    ∗ cred (tallyAt (dmaC c rv2) () NU) ∗ levAts L lv)

/-- A wait on one of the six cells of the transfers, owing nothing: the position advanced and the cell's payload. -/
theorem wp_wait_x (c : Dev nD) (q : DmaSem sig) (hq : inRound (cellNo (.dma q))) (κ : ℕ) (W : Waits sig Unit)
    {sp sp' : Space} {s s' : Shape} {e e' : EltTy} {src : Memref sig .tc sp s e} {dst : Memref sig .tc sp' s' e'}
    {hsrc : src.view.WordExact} {hdst : dst.view.WordExact} (hN : dst.view.dmaCredit = amountTab (cellNo (.dma q)))
    {α : Type} {Q : α → sProp 𝕄} {k : PUnit → Prog (TpuEff nD τ sig (Elt F) Λ₀ .tc) α} :
    iprop(cellInv ER (Rd wc wk wv) κ (dmaC c q) ∗ cred (tallyAt (dmaC c q) () (amountTab (cellNo (.dma q)))) ∗ owes (c : Thread nD τ) 0 W ∗ atPos ER (dmaC c q) 0 ∅ 0)
      ⊢ iprop(((owes (c : Thread nD τ) 0 (insert (SemLoc.dma q, ()) W) ∗ atPos ER (dmaC c q) (0 + 1) ∅ 0
            ∗ payTab wc wk wv c (cellNo (.dma q))) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨#HI, Hc, HO, Hat⟩ Hk
  iapply (Rounds.wp_wait_rest_token 𝒱₀ ER (Rd wc wk wv) (c : Thread nD τ) none (κ := κ)
      (wpE_waitDma2_eq 𝒱₀ (c : Thread nD τ) none Set.univ) (Set.mem_univ _) () (O := 0) (W := W) (R := 0) (m := 0) (T := ∅)
      (by rw [Nat.zero_add, hN, expect_at wc wk wv c _ hq])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_at wc wk wv c _ hq)); iexact Hpay

section Pay
variable (c : Dev nD)
theorem pay_bar : (Rd wc wk wv).payload (barC c) 0 () = barPay c := rfl
theorem pay_sd0 : (Rd wc wk wv).payload (dmaC c sd0) 0 () = halfC c c (stackC wc c) := rfl
theorem pay_sd1 : (Rd wc wk wv).payload (dmaC c sd1) 0 () = lentK wk c := rfl
theorem pay_sd2 : (Rd wc wk wv).payload (dmaC c sd2) 0 () = lentV wv c := rfl
theorem pay_rv0 : (Rd wc wk wv).payload (dmaC c rv0) 0 () = halfC c (ptn c) (stackC wc c) := rfl
theorem pay_rv1 : (Rd wc wk wv).payload (dmaC c rv1) 0 () = halfU c (ptn c) (stackU wk c) := rfl
theorem pay_rv2 : (Rd wc wk wv).payload (dmaC c rv2) 0 () = halfV c (ptn c) (stackU wv c) := rfl
end Pay

omit [FloatOps F] [Named F] in
theorem readK (c : Dev nD) : wukM.view.read (Elt F) (wk c) = wk c := View.read_whole ..
omit [FloatOps F] [Named F] in
theorem readV (c : Dev nD) : wuvM.view.read (Elt F) (wv c) = wv c := View.read_whole ..

/-- The transfer of the first up-projection's half to the partner. -/
theorem wp_send_K (K : Dev nD × Fin 7 → ℕ) (c n : Dev nD) (hn : n = ptn c) {hsc : (hU c : Memref sig (Dev.tc n : Thread nD τ).2.kind .vmem S128x2048 .bf16).view.ref.isScScratch = false}
    {hsrc : wukM.view.WordExact} {hdst : (hU c).view.WordExact}
    {hsem : DmaTarget.Typed .vmem (.dma rv1) (.remote (Dev.tc n : Thread nD τ) (hU c) (.dma sd1) hsc)}
    {α : Type} {Q : α → sProp 𝕄} {k : PUnit → Prog (TpuEff nD τ sig (Elt F) Λ₀ .tc) α}
    (fn : Buf (Elt F) ((ptn c : Thread nD τ).loc cc0_scratch2)) (W : Waits sig Unit) :
    iprop(cellInv ER (Rd wc wk wv) (K (c, 2)) (dmaC c sd1) ∗ cellInv ER (Rd wc wk wv) (K (ptn c, 5)) (dmaC (ptn c) rv1)
        ∗ lentK wk c ∗ halfU (ptn c) c fn ∗ owes (c : Thread nD τ) (O₁ c) W
        ∗ dutyTok ER (dmaC c sd1) 0 () ∗ reached ER (dmaC c sd1) 0 ∗ dutyTok ER (dmaC (ptn c) rv1) 0 () ∗ reached ER (dmaC (ptn c) rv1) 0)
      ⊢ iprop(((cred (tallyAt (dmaC c sd1) () NU) ∗ owes (c : Thread nD τ) (O₂ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma wukM (.remote (Dev.tc n : Thread nD τ) (hU c) (.dma sd1) hsc) (.dma rv1) hsrc hdst hsem) k) Q) := by
  subst hn
  unfold lentK halfU
  exact Rounds.wp_send_pointsTo (Q := Q) (k := k) (Es := Set.univ) 𝒱₀ ER (Rd wc wk wv) (c : Thread nD τ) none (κ₁ := K (c, 2)) (κ₂ := K (ptn c, 5))
    (c' := (ptn c : Thread nD τ)) (src := wukM) (dst := hU c) (hsc := hsc) (sS := .dma sd1) (sem := .dma rv1) (hsrc := hsrc) (hdst := hdst) (hsem := hsem)
    (q := fullShare.left) (fs := wk c) (fd := fn) (r₁ := 0) (r₂ := 0) (d₁ := ()) (d₂ := ())
    (mem_duties wc wk wv c _ (by decide)) (mem_duties wc wk wv (ptn c) _ (by decide)) () () NU (credit_hU c) (amount_at wc wk wv _ _ _) (amount_at wc wk wv _ _ _)
    (O₀ := O₁ c) (O₂ c) rfl (W := W)
    (by rw [pay_sd1]; exact BI.Entails.refl _)
    (by
      rw [pay_rv1, readK, ptn_ptn, stackU_ptn]
      exact (Entails.of_eq (pointsTo_congr (fun i hi => writeU wk c fn i hi))))

/-- The transfer of the second up-projection's half. -/
theorem wp_send_V (K : Dev nD × Fin 7 → ℕ) (c n : Dev nD) (hn : n = ptn c) {hsc : (hV c : Memref sig (Dev.tc n : Thread nD τ).2.kind .vmem S128x2048 .bf16).view.ref.isScScratch = false}
    {hsrc : wuvM.view.WordExact} {hdst : (hV c).view.WordExact}
    {hsem : DmaTarget.Typed .vmem (.dma rv2) (.remote (Dev.tc n : Thread nD τ) (hV c) (.dma sd2) hsc)}
    {α : Type} {Q : α → sProp 𝕄} {k : PUnit → Prog (TpuEff nD τ sig (Elt F) Λ₀ .tc) α}
    (fn : Buf (Elt F) ((ptn c : Thread nD τ).loc cc0_scratch3)) (W : Waits sig Unit) :
    iprop(cellInv ER (Rd wc wk wv) (K (c, 3)) (dmaC c sd2) ∗ cellInv ER (Rd wc wk wv) (K (ptn c, 6)) (dmaC (ptn c) rv2)
        ∗ lentV wv c ∗ halfV (ptn c) c fn ∗ owes (c : Thread nD τ) (O₂ c) W
        ∗ dutyTok ER (dmaC c sd2) 0 () ∗ reached ER (dmaC c sd2) 0 ∗ dutyTok ER (dmaC (ptn c) rv2) 0 () ∗ reached ER (dmaC (ptn c) rv2) 0)
      ⊢ iprop(((cred (tallyAt (dmaC c sd2) () NU) ∗ owes (c : Thread nD τ) (O₃ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma wuvM (.remote (Dev.tc n : Thread nD τ) (hV c) (.dma sd2) hsc) (.dma rv2) hsrc hdst hsem) k) Q) := by
  subst hn
  unfold lentV halfV
  exact Rounds.wp_send_pointsTo (Q := Q) (k := k) (Es := Set.univ) 𝒱₀ ER (Rd wc wk wv) (c : Thread nD τ) none (κ₁ := K (c, 3)) (κ₂ := K (ptn c, 6))
    (c' := (ptn c : Thread nD τ)) (src := wuvM) (dst := hV c) (hsc := hsc) (sS := .dma sd2) (sem := .dma rv2) (hsrc := hsrc) (hdst := hdst) (hsem := hsem)
    (q := fullShare.left) (fs := wv c) (fd := fn) (r₁ := 0) (r₂ := 0) (d₁ := ()) (d₂ := ())
    (mem_duties wc wk wv c _ (by decide)) (mem_duties wc wk wv (ptn c) _ (by decide)) () () NU (credit_hV c) (amount_at wc wk wv _ _ _) (amount_at wc wk wv _ _ _)
    (O₀ := O₂ c) (O₃ c) rfl (W := W)
    (by rw [pay_sd2]; exact BI.Entails.refl _)
    (by
      rw [pay_rv2, readV, ptn_ptn, stackU_ptn]
      exact (Entails.of_eq (pointsTo_congr (fun i hi => writeV wv c fn i hi))))

/-- The transfer of the latent's half, from the device's own place of the buffer to the same place of the partner's. -/
theorem wp_send_C (K : Dev nD × Fin 7 → ℕ) (c n : Dev nD) (hn : n = ptn c) {hsc : (hC c : Memref sig (Dev.tc n : Thread nD τ).2.kind .vmem S1024x128 .bf16).view.ref.isScScratch = false}
    {hsrc : (hC c).view.WordExact} {hdst : (hC c).view.WordExact}
    {hsem : DmaTarget.Typed .vmem (.dma rv0) (.remote (Dev.tc n : Thread nD τ) (hC c) (.dma sd0) hsc)}
    {α : Type} {Q : α → sProp 𝕄} {k : PUnit → Prog (TpuEff nD τ sig (Elt F) Λ₀ .tc) α}
    (fn : Buf (Elt F) ((ptn c : Thread nD τ).loc cc0_scratch1)) (W : Waits sig Unit) :
    iprop(cellInv ER (Rd wc wk wv) (K (c, 1)) (dmaC c sd0) ∗ cellInv ER (Rd wc wk wv) (K (ptn c, 4)) (dmaC (ptn c) rv0)
        ∗ halfC c c (stackC wc c) ∗ halfC (ptn c) c fn ∗ owes (c : Thread nD τ) (O₃ c) W
        ∗ dutyTok ER (dmaC c sd0) 0 () ∗ reached ER (dmaC c sd0) 0 ∗ dutyTok ER (dmaC (ptn c) rv0) 0 () ∗ reached ER (dmaC (ptn c) rv0) 0)
      ⊢ iprop(((cred (tallyAt (dmaC c sd0) () NC) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hC c) (.remote (Dev.tc n : Thread nD τ) (hC c) (.dma sd0) hsc) (.dma rv0) hsrc hdst hsem) k) Q) := by
  subst hn
  unfold halfC
  exact Rounds.wp_send_pointsTo (Q := Q) (k := k) (Es := Set.univ) 𝒱₀ ER (Rd wc wk wv) (c : Thread nD τ) none (κ₁ := K (c, 1)) (κ₂ := K (ptn c, 4))
    (c' := (ptn c : Thread nD τ)) (src := (hC c)) (dst := hC c) (hsc := hsc) (sS := .dma sd0) (sem := .dma rv0) (hsrc := hsrc) (hdst := hdst) (hsem := hsem)
    (q := fullShare) (fs := stackC wc c) (fd := fn) (r₁ := 0) (r₂ := 0) (d₁ := ()) (d₂ := ())
    (mem_duties wc wk wv c _ (by decide)) (mem_duties wc wk wv (ptn c) _ (by decide)) () () NC (credit_hC c) (amount_at wc wk wv _ _ _) (amount_at wc wk wv _ _ _)
    (O₀ := O₃ c) (0) (by unfold O₃; rw [zero_add]) (W := W)
    (by rw [pay_sd0]; exact BI.Entails.refl _)
    (by
      rw [pay_rv0, readC, ptn_ptn, stackC_ptn]
      exact (Entails.of_eq (pointsTo_congr (fun i hi => writeC wc c fn i hi))))

end Cert.KernelIdeal.Mla
-- ==== Proof.Pieces.lean ====
module

public import proofs.«01_k».proof.Proof.Split

@[expose] public section

noncomputable section

namespace Cert.KernelIdeal.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The signal to the partner's barrier. -/
def hSig (d0 : Dev nD) : Prog (TpuEff nD τ sig (Elt F) Λ₀ .tc) PUnit := semSignalWord (ptn d0) barS 1#32
/-- The wait on the own barrier. -/
def hWait : Prog (TpuEff nD τ sig (Elt F) Λ₀ .tc) PUnit := semWaitWord barS 1#32
/-- The transfers of the halves of the up-projections and of the latent. -/
def hSendK (d0 : Dev nD) : Prog (TpuEff nD τ sig (Elt F) Λ₀ .tc) PUnit :=
  Prog.lift (.enqueueDma wukM (.remote (Dev.tc (ptn d0)) (hU d0) (.dma sd1)) (.dma rv1) (Memref.isWhole_whole _).wordExact ((Memref.isWhole_whole _).wordExact_slice rfl _ (k0_off1_wordsbf16 d0)) ⟨⟨rfl, Or.inl rfl⟩, trivial⟩)
def hSendV (d0 : Dev nD) : Prog (TpuEff nD τ sig (Elt F) Λ₀ .tc) PUnit :=
  Prog.lift (.enqueueDma wuvM (.remote (Dev.tc (ptn d0)) (hV d0) (.dma sd2)) (.dma rv2) (Memref.isWhole_whole _).wordExact ((Memref.isWhole_whole _).wordExact_slice rfl _ (k0_off1_wordsbf16 d0)) ⟨⟨rfl, Or.inl rfl⟩, trivial⟩)
def hSendC (d0 : Dev nD) : Prog (TpuEff nD τ sig (Elt F) Λ₀ .tc) PUnit :=
  Prog.lift (.enqueueDma (hC d0) (.remote (Dev.tc (ptn d0)) (hC d0) (.dma sd0)) (.dma rv0) ((Memref.isWhole_whole _).wordExact_slice rfl _ (k0_off3_wordsbf16 d0)) ((Memref.isWhole_whole _).wordExact_slice rfl _ (k0_off3_wordsbf16 d0)) ⟨⟨rfl, Or.inl rfl⟩, trivial⟩)
/-- The six waits. -/
def hWs0 (d0 : Dev nD) : Prog (TpuEff nD τ sig (Elt F) Λ₀ .tc) PUnit :=
  Prog.lift (.waitDma2 sd0 (hC d0) (hC d0) ((Memref.isWhole_whole _).wordExact_slice rfl _ (k0_off3_wordsbf16 d0)) ((Memref.isWhole_whole _).wordExact_slice rfl _ (k0_off3_wordsbf16 d0)))
def hWr0 (d0 : Dev nD) : Prog (TpuEff nD τ sig (Elt F) Λ₀ .tc) PUnit :=
  Prog.lift (.waitDma2 rv0 (hC d0) (hC d0) ((Memref.isWhole_whole _).wordExact_slice rfl _ (k0_off3_wordsbf16 d0)) ((Memref.isWhole_whole _).wordExact_slice rfl _ (k0_off3_wordsbf16 d0)))
def hWs1 (d0 : Dev nD) : Prog (TpuEff nD τ sig (Elt F) Λ₀ .tc) PUnit :=
  Prog.lift (.waitDma2 sd1 (hU d0) wukM ((Memref.isWhole_whole _).wordExact_slice rfl _ (k0_off1_wordsbf16 d0)) (Memref.isWhole_whole _).wordExact)
def hWr1 (d0 : Dev nD) : Prog (TpuEff nD τ sig (Elt F) Λ₀ .tc) PUnit :=
  Prog.lift (.waitDma2 rv1 wukM (hU d0) (Memref.isWhole_whole _).wordExact ((Memref.isWhole_whole _).wordExact_slice rfl _ (k0_off1_wordsbf16 d0)))
def hWs2 (d0 : Dev nD) : Prog (TpuEff nD τ sig (Elt F) Λ₀ .tc) PUnit :=
  Prog.lift (.waitDma2 sd2 (hV d0) wuvM ((Memref.isWhole_whole _).wordExact_slice rfl _ (k0_off1_wordsbf16 d0)) (Memref.isWhole_whole _).wordExact)
def hWr2 (d0 : Dev nD) : Prog (TpuEff nD τ sig (Elt F) Λ₀ .tc) PUnit :=
  Prog.lift (.waitDma2 rv2 wuvM (hV d0) (Memref.isWhole_whole _).wordExact ((Memref.isWhole_whole _).wordExact_slice rfl _ (k0_off1_wordsbf16 d0)))

/-- From the first copy of a block of the query weights to the store of the own half of the latent. -/
def seg1 (d0 : Dev nD) : Prog (TpuEff nD τ sig (Elt F) Λ₀ .tc) PUnit := do
  let v40 : DmaSems sig S1 := cc0_scratch13.slice (Rect.unit (s := S2) ![0] S1.size inb_S2_S1_0)
  let v41 : DmaSems sig S_ := v40.squeeze S_ squeezes_S1_S_
  let v42 : Memref sig .tc .vmem S1x2048x512 .f32 := (Memref.whole cc0_scratch10).slice (Rect.unit (s := S2x2048x512) ![0, 0, 0] S1x2048x512.size inb_S2x2048x512_S1x2048x512_0_0_0) (fun _ => rfl)
  let v43 : Memref sig .tc .vmem S2048x512 .f32 := v42.squeeze S2048x512 squeezes_S1x2048x512_S2048x512
  let v44 : Memref sig .tc .hbm S2048x512 .f32 := (Memref.whole main_arg4).slice (Rect.unit (s := S2048x2048) ![0, 0] S2048x512.size inb_S2048x2048_S2048x512_0_0) (fun _ => rfl)
  Prog.lift (.enqueueDma v44 (.here v43) (.dma v41.sem) (View.wordExact_bits rfl) ((View.wordExact_bits rfl).reshape _ _) ⟨Or.inl rfl, trivial⟩)
  let v45 : Vec F S2x512x2048 .f32 ← Prog.lift (.load (Memref.whole cc0_stg0_0) (Rect.unit (s := S2x512x2048) ![0, 0, 0] S2x512x2048.size inb_S2x512x2048_S2x512x2048_0_0_0).toLoadRect (View.loadsAt_vmem h_S2x512x2048))
  let v49 : Vec F S1024x2048 .bf16 ← Prog.lift (.load (Memref.whole cc0_scratch0) (Rect.unit (s := S1024x2048) ![0, 0] S1024x2048.size inb_S1024x2048_S1024x2048_0_0).toLoadRect (View.loadsAt_vmem h_S1024x2048))
  Prog.lift (.store (Memref.whole cc0_scratch0) (Rect.unit (s := S1024x2048) ![0, 0] S1024x2048.size inb_S1024x2048_S1024x2048_0_0) (k0_pay2 v45) Finset.univ (View.stores_vmem h_S1024x2048 ((Memref.isWhole_whole _).storeExact_slice rfl _ packedbf16_S1024x2048_S1024x2048_0_0) (fun _ => rfl)) (.inl rfl))
  let v52 : Vec F S1024x2048 .bf16 ← Prog.lift (.load (Memref.whole cc0_scratch0) (Rect.unit (s := S1024x2048) ![0, 0] S1024x2048.size inb_S1024x2048_S1024x2048_0_0).toLoadRect (View.loadsAt_vmem h_S1024x2048))
  let v53 : Vec F S2048x128 .f32 ← Prog.lift (.load (Memref.whole cc0_stg1_0) (Rect.unit (s := S2048x128) ![0, 0] S2048x128.size inb_S2048x128_S2048x128_0_0).toLoadRect (View.loadsAt_vmem h_S2048x128))
  let v59 : Vec F S1024x128 .bf16 ← Prog.lift (.load (Memref.whole cc0_scratch1) (Rect.unit (s := S1024x256) (k0_off2 d0) S1024x128.size (k0_off2_inb d0)).toLoadRect (View.loadsAt_vmem h_S1024x128))
  Prog.lift (.store (Memref.whole cc0_scratch1) (Rect.unit (s := S1024x256) (k0_off2 d0) S1024x128.size (k0_off2_inb d0)) (k0_pay3 v52 v53) Finset.univ (View.stores_vmem h_S1024x128 ((Memref.isWhole_whole _).storeExact_slice rfl _ (k0_off2_packedbf16 d0)) (fun _ => rfl)) (.inl rfl))
  pure ⟨⟩

/-- The stores of the own halves of the up-projections; the queries and the rotary parts. -/
def seg2 (d0 : Dev nD) : Prog (TpuEff nD τ sig (Elt F) Λ₀ .tc) PUnit := do
  let v74 : Vec F S128x2048 .bf16 ← Prog.lift (.load (Memref.whole cc0_stg2_0) (Rect.unit (s := S128x2048) ![0, 0] S128x2048.size inb_S128x2048_S128x2048_0_0).toLoadRect (View.loadsAt_vmem h_S128x2048))
  let v77 : Vec F S128x2048 .bf16 ← Prog.lift (.load (Memref.whole cc0_scratch2) (Rect.unit (s := S256x2048) (k0_off4 d0) S128x2048.size (k0_off4_inb d0)).toLoadRect (View.loadsAt_vmem h_S128x2048))
  Prog.lift (.store (Memref.whole cc0_scratch2) (Rect.unit (s := S256x2048) (k0_off4 d0) S128x2048.size (k0_off4_inb d0)) (k0_pay4 v74) Finset.univ (View.stores_vmem h_S128x2048 ((Memref.isWhole_whole _).storeExact_slice rfl _ (k0_off4_packedbf16 d0)) (fun _ => rfl)) (.inl rfl))
  let v80 : Vec F S128x2048 .bf16 ← Prog.lift (.load (Memref.whole cc0_stg3_0) (Rect.unit (s := S128x2048) ![0, 0] S128x2048.size inb_S128x2048_S128x2048_0_0).toLoadRect (View.loadsAt_vmem h_S128x2048))
  let v83 : Vec F S128x2048 .bf16 ← Prog.lift (.load (Memref.whole cc0_scratch3) (Rect.unit (s := S256x2048) (k0_off4 d0) S128x2048.size (k0_off4_inb d0)).toLoadRect (View.loadsAt_vmem h_S128x2048))
  Prog.lift (.store (Memref.whole cc0_scratch3) (Rect.unit (s := S256x2048) (k0_off4 d0) S128x2048.size (k0_off4_inb d0)) (k0_pay5 v80) Finset.univ (View.stores_vmem h_S128x2048 ((Memref.isWhole_whole _).storeExact_slice rfl _ (k0_off4_packedbf16 d0)) (fun _ => rfl)) (.inl rfl))
  let v86 : DmaSems sig S1 := cc0_scratch13.slice (Rect.unit (s := S2) ![1] S1.size inb_S2_S1_1)
  let v87 : DmaSems sig S_ := v86.squeeze S_ squeezes_S1_S_
  let v88 : Memref sig .tc .vmem S1x2048x512 .f32 := (Memref.whole cc0_scratch10).slice (Rect.unit (s := S2x2048x512) ![1, 0, 0] S1x2048x512.size inb_S2x2048x512_S1x2048x512_1_0_0) (fun _ => rfl)
  let v89 : Memref sig .tc .vmem S2048x512 .f32 := v88.squeeze S2048x512 squeezes_S1x2048x512_S2048x512
  let v90 : Memref sig .tc .hbm S2048x512 .f32 := (Memref.whole main_arg4).slice (Rect.unit (s := S2048x2048) ![0, 512] S2048x512.size inb_S2048x2048_S2048x512_0_512) (fun _ => rfl)
  Prog.lift (.enqueueDma v90 (.here v89) (.dma v87.sem) (View.wordExact_bits rfl) ((View.wordExact_bits rfl).reshape _ _) ⟨Or.inl rfl, trivial⟩)
  let v123 : FVec F S1024x512 .f32 ← k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13
  k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v123
  let ⟨v171, v183⟩ : Σ' (v171 : FVec F S1024x512 .f32), FVec F S512x32 .bf16 ← k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13
  let v217 : FVec F S512x32 .f32 ← k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v171 v183
  let v248 : FVec F S512x32 .bf16 ← k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v171 v217
  let v283 : FVec F S512x32 .bf16 ← k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v171 v248
  let v317 : FVec F S512x32 .f32 ← k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v171 v283
  k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 v171 v317

/-- The keys and the values. -/
def seg3 (d0 : Dev nD) : Prog (TpuEff nD τ sig (Elt F) Λ₀ .tc) PUnit := do
  let v385 : Vec F S1024x256 .bf16 ← Prog.lift (.load (Memref.whole cc0_scratch1) (Rect.unit (s := S1024x256) ![0, 0] S1024x256.size inb_S1024x256_S1024x256_0_0).toLoadRect (View.loadsAt_vmem h_S1024x256))
  let v386 : Vec F S256x2048 .bf16 ← Prog.lift (.load (Memref.whole cc0_scratch2) (Rect.unit (s := S256x2048) ![0, 0] S256x2048.size inb_S256x2048_S256x2048_0_0).toLoadRect (View.loadsAt_vmem h_S256x2048))
  let v389 : Vec F S1024x2048 .bf16 ← Prog.lift (.load (Memref.whole cc0_scratch7) (Rect.unit (s := S1024x2048) ![0, 0] S1024x2048.size inb_S1024x2048_S1024x2048_0_0).toLoadRect (View.loadsAt_vmem h_S1024x2048))
  Prog.lift (.store (Memref.whole cc0_scratch7) (Rect.unit (s := S1024x2048) ![0, 0] S1024x2048.size inb_S1024x2048_S1024x2048_0_0) (k0_pay52 v385 v386) Finset.univ (View.stores_vmem h_S1024x2048 ((Memref.isWhole_whole _).storeExact_slice rfl _ packedbf16_S1024x2048_S1024x2048_0_0) (fun _ => rfl)) (.inl rfl))
  let v392 : Vec F S1024x256 .bf16 ← Prog.lift (.load (Memref.whole cc0_scratch1) (Rect.unit (s := S1024x256) ![0, 0] S1024x256.size inb_S1024x256_S1024x256_0_0).toLoadRect (View.loadsAt_vmem h_S1024x256))
  let v393 : Vec F S256x2048 .bf16 ← Prog.lift (.load (Memref.whole cc0_scratch3) (Rect.unit (s := S256x2048) ![0, 0] S256x2048.size inb_S256x2048_S256x2048_0_0).toLoadRect (View.loadsAt_vmem h_S256x2048))
  let v396 : Vec F S1024x2048 .bf16 ← Prog.lift (.load (Memref.whole cc0_scratch8) (Rect.unit (s := S1024x2048) ![0, 0] S1024x2048.size inb_S1024x2048_S1024x2048_0_0).toLoadRect (View.loadsAt_vmem h_S1024x2048))
  Prog.lift (.store (Memref.whole cc0_scratch8) (Rect.unit (s := S1024x2048) ![0, 0] S1024x2048.size inb_S1024x2048_S1024x2048_0_0) (k0_pay53 v392 v393) Finset.univ (View.stores_vmem h_S1024x2048 ((Memref.isWhole_whole _).storeExact_slice rfl _ packedbf16_S1024x2048_S1024x2048_0_0) (fun _ => rfl)) (.inl rfl))
  pure ⟨⟩

/-- The head of the body in its pieces. -/
def headC (d0 : Dev nD) : Prog (TpuEff nD τ sig (Elt F) Λ₀ .tc) PUnit := do
  hSig d0
  hWait
  hSendK d0
  hSendV d0
  seg1 d0
  hSendC d0
  seg2 d0
  hWs0 d0
  hWr0 d0
  hWs1 d0
  hWr1 d0
  hWs2 d0
  hWr2 d0
  seg3 d0
/-- The head, which reads its device first. -/
def headB : Prog (TpuEff nD τ sig (Elt F) Λ₀ .tc) PUnit := Prog.lift .deviceId >>= headC

/-- Two programs with the same first operation and the same continuations. -/
theorem op_congr {α X : Type} {e e' : TpuEff nD τ sig (Elt F) Λ₀ .tc X} {k k' : X → Prog (TpuEff nD τ sig (Elt F) Λ₀ .tc) α} (h : e = e') (hk : ∀ x, k x = k' x) :
    Prog.op e k = Prog.op e' k' := by rw [h, funext hk]
/-- A transfer to a device under an equal name of it. -/
theorem remote_congr {n n' : Dev nD} (h : n = n') {sp sp' : Space} {s : Shape} {e : EltTy} (src : Memref sig .tc sp s e) (dst : Memref sig .tc sp' s e)
    (sS rv : SemLoc sig) (hsc : dst.view.ref.isScScratch = false) (hsrc : src.view.WordExact) (hdst : dst.view.WordExact)
    (hsem : DmaTarget.Typed sp rv (.remote (Dev.tc n : Thread nD τ) dst sS hsc)) (hsem' : DmaTarget.Typed sp rv (.remote (Dev.tc n' : Thread nD τ) dst sS hsc)) :
    (TpuEff.enqueueDma src (.remote (Dev.tc n : Thread nD τ) dst sS hsc) rv hsrc hdst hsem : TpuEff nD τ sig (Elt F) Λ₀ .tc PUnit)
      = .enqueueDma src (.remote (Dev.tc n' : Thread nD τ) dst sS hsc) rv hsrc hdst hsem' := by subst h; rfl

set_option maxRecDepth 65536 in
theorem headA_eq : headA (F := F) = headB := by
  unfold headA headB headC hSig hWait hSendK hSendV hSendC hWs0 hWr0 hWs1 hWr1 hWs2 hWr2 seg1 seg2 seg3
  rw [k0_part1_eq_skeleton, k0_part2_eq_skeleton, k0_part3_eq_skeleton, k0_part12_eq_skeleton]
  unfold k0_part1_skel k0_part2_skel k0_part3_skel k0_part12_skel
  simp only [semSignalWord, semWaitWord, Prog.lift, Prog.bind_op, Prog.bind_ret, Prog.pure_eq_ret, Prog.bind_assoc, dev1_eq, dev2_eq, dev3_eq, dev4_eq]
  refine congrArg _ (funext fun c => ?_)
  refine op_congr rfl fun _ => op_congr rfl fun _ => op_congr (remote_congr (dev2_eq c) ..) fun _ =>
    op_congr (remote_congr (dev3_eq c) ..) fun _ => ?_
  iterate 8 refine op_congr rfl (fun _ => ?_)
  refine op_congr (remote_congr (dev4_eq c) ..) fun _ => ?_
  iterate 7 refine op_congr rfl (fun _ => ?_)
  refine congrArg (Bind.bind _) (funext fun _ => ?_)
  refine congrArg (Bind.bind _) (funext fun _ => ?_)
  refine congrArg (Bind.bind _) (funext fun _ => ?_)
  refine congrArg (Bind.bind _) (funext fun _ => ?_)
  refine congrArg (Bind.bind _) (funext fun _ => ?_)
  refine congrArg (Bind.bind _) (funext fun _ => ?_)
  refine congrArg (Bind.bind _) (funext fun _ => ?_)
  refine congrArg (Bind.bind _) (funext fun _ => ?_)
  iterate 14 refine op_congr rfl (fun _ => ?_)
  rfl

end Cert.KernelIdeal.Mla
-- ==== Proof.Forms.lean ====
module

public import proofs.«01_k».proof.Proof.Protocol
public import Idealize.ShloMosaic.Lib.Pipeline.Value
public import Idealize.ShloMosaic.Lib.ValueLayout
public import Idealize.ShloMosaic.Lib.Ring
public import Idealize.ShloMosaic.Lib.VecWindow

@[expose] public section

noncomputable section

namespace Cert.KernelIdeal.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

def ix3 {a b d : ℕ} (i j k : ℕ) (hi : i < a) (hj : j < b) (hk : k < d) : (⟨3, ![a, b, d]⟩ : Shape).Idx :=
  fun l => match l with
    | ⟨0, _⟩ => ⟨i, hi⟩
    | ⟨1, _⟩ => ⟨j, hj⟩
    | ⟨2, _⟩ => ⟨k, hk⟩
theorem ix3_eta {a b d : ℕ} (x : (⟨3, ![a, b, d]⟩ : Shape).Idx) (i j k : ℕ) (hi : i < a) (hj : j < b) (hk : k < d)
    (h0 : (x 0).val = i) (h1 : (x 1).val = j) (h2 : (x 2).val = k) : x = ix3 i j k hi hj hk := by
  funext l
  match l with
  | ⟨0, _⟩ => exact Fin.ext h0
  | ⟨1, _⟩ => exact Fin.ext h1
  | ⟨2, _⟩ => exact Fin.ext h2

theorem truncf_at {s t : Shape} (x : FVec F s .f32) (y : FVec F t .f32) (h : FTy.bits .bf16 < FTy.bits .f32) {i : s.Idx} {j : t.Idx} (e : x i = y j) :
    truncf .bf16 x h i = truncf .bf16 y h j := congrArg (FloatOps.truncf .bf16 h) e

/-- Writes that agree with one function and cover the view leave that function. -/
theorem pieces_eq {sp : Space} {s : Shape} {e : EltTy} (v : View sig .tc sp s e) (f : v.ty.Contents (Elt F)) (G : s.Idx → Elt F e)
    (L : List (View.Piece (Elt F) s e)) (hp : ∀ p ∈ L, ∀ x : p.1.shape.Idx, p.2 x = G (p.1.emb x)) (hc : ∀ y : s.Idx, ∃ p ∈ L, y ∈ p.1.set) :
    v.read (Elt F) (v.writes (Elt F) f L) = G :=
  funext fun y => View.read_writes_apply_of_pieces v f G L hp y (hc y)

/-- Column block `n` of a projection matrix, as the staged tile holds it. -/
def wBlk (w : Vec F S2048x2048 .f32) (n : ℕ) : Vec F S1x2048x512 .f32 := fun i =>
  w (ix2 (i 1).val ((512 * n + (i 2).val) % 2048) (i 1).isLt (Nat.mod_lt _ (by decide)))

/-- The scaled queries, column block by column block. -/
def qF (xb : Vec F S1024x2048 .bf16) (wq : Vec F S2048x2048 .f32) : Vec F S1024x2048 .bf16 := fun i =>
  k0_pay6 xb (wBlk wq ((i 1).val / 512)) (ix2 (i 0).val ((i 1).val % 512) (i 0).isLt (Nat.mod_lt _ (by decide)))
/-- The scaled rotary queries, one plane per batch and head. -/
def qrF (xb : Vec F S1024x2048 .bf16) (wqr : Vec F S2048x512 .f32) : Vec F S32x512x32 .bf16 := fun i =>
  truncf .bf16 (k0_pay11 xb wqr) bitsLt_bf16_f32 (ix2 ((512 * ((i 0).val / 16) + (i 1).val) % 1024) ((32 * ((i 0).val % 16) + (i 2).val) % 512)
    (Nat.mod_lt _ (by decide)) (Nat.mod_lt _ (by decide)))
/-- The rotary keys, one plane per batch. -/
def krF (xb : Vec F S1024x2048 .bf16) (wkr : Vec F S2048x32 .f32) : Vec F S2x512x32 .bf16 := fun i =>
  truncf .bf16 (k0_pay49 xb wkr) bitsLt_bf16_f32 (ix2 ((512 * (i 0).val + (i 1).val) % 1024) (i 2).val
    (Nat.mod_lt _ (by decide)) (i 2).isLt)

theorem qPiece (xb : Vec F S1024x2048 .bf16) (wq : Vec F S2048x2048 .f32) (n : ℕ) (off : Fin 2 → ℕ) (h : off = ![0, 512 * n])
    (inb : ∀ a, off a + S1024x512.size a ≤ S1024x2048.size a) (x : S1024x512.Idx) :
    k0_pay6 xb (wBlk wq n) x = qF xb wq ((Rect.unit (s := S1024x2048) off S1024x512.size inb).emb x) := by
  subst h
  have e0 : (((Rect.unit (s := S1024x2048) ![0, 512 * n] S1024x512.size inb).emb x) 0).val = (x 0).val := by
    show 0 + 1 * (x 0).val = _; omega
  have e1 : (((Rect.unit (s := S1024x2048) ![0, 512 * n] S1024x512.size inb).emb x) 1).val = 512 * n + (x 1).val := by
    show 512 * n + 1 * (x 1).val = _; omega
  have hx : (x 1).val < 512 := (x 1).isLt
  unfold qF
  have hd : (((Rect.unit (s := S1024x2048) ![0, 512 * n] S1024x512.size inb).emb x) 1).val / 512 = n := by omega
  rw [hd]
  exact congrArg (k0_pay6 xb (wBlk wq n)) (ix2_eta x _ _ _ _ e0.symm (by omega))

theorem sliceRow (v : Vec F S1024x512 .f32) (b h : ℕ) (hb : b < 2) (hh : h < 16) (o2 : Fin 2 → ℕ) (ho2 : o2 = ![512 * b, 32 * h]) (hs : S1024x512.Slices o2 S512x32)
    (x : S1x512x32.Idx) :
    shapeCast S1x512x32 (truncf .bf16 (extractStridedSlice S512x32 o2 v hs) bitsLt_bf16_f32) shapeCasts_S512x32_S1x512x32 x
      = truncf .bf16 v bitsLt_bf16_f32 (ix2 ((512 * b + (x 1).val) % 1024) ((32 * h + (x 2).val) % 512) (Nat.mod_lt _ (by decide)) (Nat.mod_lt _ (by decide))) := by
  subst ho2
  have h1 : (x 1).val < 512 := (x 1).isLt
  have h2 : (x 2).val < 32 := (x 2).isLt
  rw [ix3_eta x 0 (x 1).val (x 2).val (by decide) h1 h2 (by have : (x 0).val < 1 := (x 0).isLt; omega) rfl rfl]
  refine (Idealize.ShloMosaic.ValueIdx.shapeCast_ab_1ab_apply _ _ (0 : Fin 1) (⟨(x 1).val, h1⟩ : Fin 512) (⟨(x 2).val, h2⟩ : Fin 32)).trans ?_
  refine truncf_at _ _ _ (extractStridedSlice_apply _ v hs _ _ fun a => ?_)
  match a with
  | ⟨0, _⟩ => show (512 * b + (x 1).val) % 1024 = 512 * b + (x 1).val; omega
  | ⟨1, _⟩ => show (32 * h + (x 2).val) % 512 = 32 * h + (x 2).val; omega

theorem qrPiece (xb : Vec F S1024x2048 .bf16) (wqr : Vec F S2048x512 .f32) (b h : ℕ) (hb : b < 2) (hh : h < 16) (off : Fin 3 → ℕ) (hoff : off = ![16 * b + h, 0, 0])
    (inb : ∀ a, off a + S1x512x32.size a ≤ S32x512x32.size a) (o2 : Fin 2 → ℕ) (ho2 : o2 = ![512 * b, 32 * h]) (hs : S1024x512.Slices o2 S512x32) (x : S1x512x32.Idx) :
    shapeCast S1x512x32 (truncf .bf16 (extractStridedSlice S512x32 o2 (k0_pay11 xb wqr) hs) bitsLt_bf16_f32) shapeCasts_S512x32_S1x512x32 x
      = qrF xb wqr ((Rect.unit (s := S32x512x32) off S1x512x32.size inb).emb x) := by
  rw [sliceRow (k0_pay11 xb wqr) b h hb hh o2 ho2 hs x]
  subst hoff
  have h0 : (x 0).val < 1 := (x 0).isLt
  have e0 : (((Rect.unit (s := S32x512x32) ![16 * b + h, 0, 0] S1x512x32.size inb).emb x) 0).val = 16 * b + h := by
    show 16 * b + h + 1 * (x 0).val = _; omega
  have e1 : (((Rect.unit (s := S32x512x32) ![16 * b + h, 0, 0] S1x512x32.size inb).emb x) 1).val = (x 1).val := by
    show 0 + 1 * (x 1).val = _; omega
  have e2 : (((Rect.unit (s := S32x512x32) ![16 * b + h, 0, 0] S1x512x32.size inb).emb x) 2).val = (x 2).val := by
    show 0 + 1 * (x 2).val = _; omega
  unfold qrF
  exact congrArg (truncf .bf16 (k0_pay11 xb wqr) bitsLt_bf16_f32) (ix2_eta _ _ _ _ _ (by show (512 * b + (x 1).val) % 1024 = _; omega) (by show (32 * h + (x 2).val) % 512 = _; omega))

theorem krPiece (xb : Vec F S1024x2048 .bf16) (wkr : Vec F S2048x32 .f32) (b : ℕ) (hb : b < 2) (off : Fin 3 → ℕ) (hoff : off = ![b, 0, 0])
    (inb : ∀ a, off a + S1x512x32.size a ≤ S2x512x32.size a) (o2 : Fin 2 → ℕ) (ho2 : o2 = ![512 * b, 0]) (hs : S1024x32.Slices o2 S512x32) (x : S1x512x32.Idx) :
    shapeCast S1x512x32 (truncf .bf16 (extractStridedSlice S512x32 o2 (k0_pay49 xb wkr) hs) bitsLt_bf16_f32) shapeCasts_S512x32_S1x512x32 x
      = krF xb wkr ((Rect.unit (s := S2x512x32) off S1x512x32.size inb).emb x) := by
  subst ho2; subst hoff
  have h0 : (x 0).val < 1 := (x 0).isLt
  have h1 : (x 1).val < 512 := (x 1).isLt
  have h2 : (x 2).val < 32 := (x 2).isLt
  have e0 : (((Rect.unit (s := S2x512x32) ![b, 0, 0] S1x512x32.size inb).emb x) 0).val = b := by
    show b + 1 * (x 0).val = _; omega
  have e1 : (((Rect.unit (s := S2x512x32) ![b, 0, 0] S1x512x32.size inb).emb x) 1).val = (x 1).val := by
    show 0 + 1 * (x 1).val = _; omega
  have e2 : (((Rect.unit (s := S2x512x32) ![b, 0, 0] S1x512x32.size inb).emb x) 2).val = (x 2).val := by
    show 0 + 1 * (x 2).val = _; omega
  generalize hy : (Rect.unit (s := S2x512x32) ![b, 0, 0] S1x512x32.size inb).emb x = y at e0 e1 e2 ⊢
  rw [ix3_eta x 0 (x 1).val (x 2).val (by decide) h1 h2 (by omega) rfl rfl]
  refine (Idealize.ShloMosaic.ValueIdx.shapeCast_ab_1ab_apply _ _ (0 : Fin 1) (⟨(x 1).val, h1⟩ : Fin 512) (⟨(x 2).val, h2⟩ : Fin 32)).trans ?_
  unfold krF
  refine truncf_at _ _ _ (extractStridedSlice_apply _ _ hs _ _ fun a => ?_)
  match a with
  | ⟨0, _⟩ => show (512 * (y 0).val + (y 1).val) % 1024 = 512 * b + (x 1).val; omega
  | ⟨1, _⟩ => show (y 2).val = 0 + (x 2).val; omega

/-! ## The two slots of the staging buffer -/

theorem unsqueeze (h : S2048x512.numel = S1x2048x512.numel) (y : S1x2048x512.Idx) :
    (Shape.reshapeEquiv h).symm y = ix2 (y 1).val (y 2).val (y 1).isLt (y 2).isLt := by
  refine (Equiv.symm_apply_eq _).2 (Shape.reshapeEquiv_eq_of_rowMajor h ?_).symm
  have h0 : (y 0).val < 1 := (y 0).isLt
  have e2 : (S2048x512.rowMajor (ix2 (a := 2048) (b := 512) (y 1).val (y 2).val (y 1).isLt (y 2).isLt)).val = (y 1).val * 512 + (y 2).val := by
    rw [Shape.rowMajor_val_two]; rfl
  have e3 : (S1x2048x512.rowMajor y).val = ((y 0).val * 2048 + (y 1).val) * 512 + (y 2).val := by
    rw [Shape.rowMajor_val_three]; rfl
  refine e3.trans (Eq.trans ?_ e2.symm)
  omega

theorem slot_same (off : Fin 3 → ℕ) (inb inb' : ∀ a, off a + S1x2048x512.size a ≤ S2x2048x512.size a) {hh} {sq : S1x2048x512.Squeezes S2048x512}
    (f : Vec F S2x2048x512 .f32) (w : S2048x512.Idx → Elt F .f32) :
    View.readAt (Elt F) (Memref.whole cc0_scratch10).view (Rect.unit (s := S2x2048x512) off S1x2048x512.size inb).toLoadRect
      (View.write (Elt F) (((Memref.whole cc0_scratch10).slice (Rect.unit (s := S2x2048x512) off S1x2048x512.size inb') hh).squeeze S2048x512 sq).view f w Finset.univ)
      = fun y : S1x2048x512.Idx => w (ix2 (y 1).val (y 2).val (y 1).isLt (y 2).isLt) := by
  refine (congrArg (View.readAt (Elt F) (Memref.whole cc0_scratch10).view (Rect.unit (s := S2x2048x512) off S1x2048x512.size inb).toLoadRect)
    (View.write_reshape_univ ((Memref.whole cc0_scratch10).view.slice (Rect.unit (s := S2x2048x512) off S1x2048x512.size inb')) sq.numel_eq f w)).trans ?_
  refine (View.read_write_univ (v := (Memref.whole cc0_scratch10).view.slice (Rect.unit (s := S2x2048x512) off S1x2048x512.size inb)) f _).trans ?_
  funext y
  exact congrArg w (unsqueeze _ y)

theorem slot_other (off off' : Fin 3 → ℕ) (i j : ℕ) (ho : off 0 = i) (ho' : off' 0 = j) (hij : i ≠ j)
    (inb : ∀ a, off a + S1x2048x512.size a ≤ S2x2048x512.size a) (inb' : ∀ a, off' a + S1x2048x512.size a ≤ S2x2048x512.size a) {hh} {sq : S1x2048x512.Squeezes S2048x512}
    (f : Vec F S2x2048x512 .f32) (w : S2048x512.Idx → Elt F .f32) :
    View.readAt (Elt F) (Memref.whole cc0_scratch10).view (Rect.unit (s := S2x2048x512) off S1x2048x512.size inb).toLoadRect
      (View.write (Elt F) (((Memref.whole cc0_scratch10).slice (Rect.unit (s := S2x2048x512) off' S1x2048x512.size inb') hh).squeeze S2048x512 sq).view f w Finset.univ)
      = View.readAt (Elt F) (Memref.whole cc0_scratch10).view (Rect.unit (s := S2x2048x512) off S1x2048x512.size inb).toLoadRect f := by
  refine (congrArg (View.readAt (Elt F) (Memref.whole cc0_scratch10).view (Rect.unit (s := S2x2048x512) off S1x2048x512.size inb).toLoadRect)
    (View.write_reshape_univ ((Memref.whole cc0_scratch10).view.slice (Rect.unit (s := S2x2048x512) off' S1x2048x512.size inb')) sq.numel_eq f w)).trans ?_
  funext y
  rw [View.readAt_apply, View.readAt_apply]
  refine View.read_slice_write_of_not_mem (v := (Memref.whole cc0_scratch10).view) (Rect.unit (s := S2x2048x512) off' S1x2048x512.size inb') f _ Finset.univ ?_
  intro hm
  obtain ⟨z, -, hz⟩ := Finset.mem_map.mp hm
  have h1 := congrArg (fun t : S2x2048x512.Idx => (t 0).val) hz
  have hz0 : (z 0).val < 1 := (z 0).isLt
  have hy0 : (y 0).val < 1 := (y 0).isLt
  have h2 : off' 0 + 1 * (z 0).val = off 0 + 1 * (y 0).val := h1
  omega

/-- What a copy of column block `n` leaves in a slot. -/
theorem wqCopy (n : ℕ) (hn : n < 4) (off : Fin 2 → ℕ) (ho : off = ![0, 512 * n]) (inb : ∀ a, off a + S2048x512.size a ≤ S2048x2048.size a) {hh} (w : Vec F S2048x2048 .f32) :
    (fun y : S1x2048x512.Idx => (View.read (Elt F) ((Memref.whole main_arg4).slice (Rect.unit (s := S2048x2048) off S2048x512.size inb) hh).view w : S2048x512.Idx → Elt F .f32)
      (ix2 (y 1).val (y 2).val (y 1).isLt (y 2).isLt)) = wBlk w n := by
  subst ho
  funext y
  have h2 : (y 2).val < 512 := (y 2).isLt
  refine congrArg w (ix2_eta _ _ _ _ _ ?_ ?_)
  · show 0 + 1 * (y 1).val = (y 1).val; omega
  · show 512 * n + 1 * (y 2).val = (512 * n + (y 2).val) % 2048; omega

/-- What a copy of column block `n` leaves in a slot. -/
theorem woCopy (n : ℕ) (hn : n < 4) (off : Fin 2 → ℕ) (ho : off = ![0, 512 * n]) (inb : ∀ a, off a + S2048x512.size a ≤ S2048x2048.size a) {hh} (w : Vec F S2048x2048 .f32) :
    (fun y : S1x2048x512.Idx => (View.read (Elt F) ((Memref.whole main_arg7).slice (Rect.unit (s := S2048x2048) off S2048x512.size inb) hh).view w : S2048x512.Idx → Elt F .f32)
      (ix2 (y 1).val (y 2).val (y 1).isLt (y 2).isLt)) = wBlk w n := by
  subst ho
  funext y
  have h2 : (y 2).val < 512 := (y 2).isLt
  refine congrArg w (ix2_eta _ _ _ _ _ ?_ ?_)
  · show 0 + 1 * (y 1).val = (y 1).val; omega
  · show 512 * n + 1 * (y 2).val = (512 * n + (y 2).val) % 2048; omega

theorem zero2 : (![0, 0] : Fin 2 → ℕ) = fun _ => 0 := by funext a; fin_cases a <;> rfl
theorem zero3 : (![0, 0, 0] : Fin 3 → ℕ) = fun _ => 0 := by funext a; fin_cases a <;> rfl

/-- The rounded activations, as every projection reads them back. -/
theorem xb_read (x : Vec F S2x512x2048 .f32) :
    (Memref.whole cc0_scratch0).view.readCov
      [(⟨Rect.unit (s := S1024x2048) ![0, 0] S1024x2048.size inb_S1024x2048_S1024x2048_0_0,
        k0_pay2 (View.readAt (Elt F) (Memref.whole cc0_stg0_0).view (Rect.unit (s := S2x512x2048) ![0, 0, 0] S2x512x2048.size inb_S2x512x2048_S2x512x2048_0_0_0).toLoadRect x)⟩ : View.Piece (Elt F) S1024x2048 .bf16)]
      (Rect.unit (s := S1024x2048) ![0, 0] S1024x2048.size inb_S1024x2048_S1024x2048_0_0).toLoadRect = k0_pay2 x :=
  (View.readCov_full (Memref.whole cc0_scratch0).view _ _ _ _).trans (congrArg k0_pay2 (Memref.readAt_unit_zero (Elt F) cc0_stg0_0 zero3 _ x))

theorem whole_store7 (f w : Vec F S1024x2048 .bf16) :
    (Memref.whole cc0_scratch7).view.writes (Elt F) f [⟨Rect.unit (s := S1024x2048) ![0, 0] S1024x2048.size inb_S1024x2048_S1024x2048_0_0, w⟩] = w :=
  Memref.write_access_unit_zero_univ (Elt F) cc0_scratch7 zero2 inb_S1024x2048_S1024x2048_0_0 f w
theorem whole_store8 (f w : Vec F S1024x2048 .bf16) :
    (Memref.whole cc0_scratch8).view.writes (Elt F) f [⟨Rect.unit (s := S1024x2048) ![0, 0] S1024x2048.size inb_S1024x2048_S1024x2048_0_0, w⟩] = w :=
  Memref.write_access_unit_zero_univ (Elt F) cc0_scratch8 zero2 inb_S1024x2048_S1024x2048_0_0 f w
theorem qF_writes (f : Vec F S1024x2048 .bf16) (xb : Vec F S1024x2048 .bf16) (wq : Vec F S2048x2048 .f32) (b0 b1 b2 b3 : Vec F S1x2048x512 .f32)
    (h0 : b0 = wBlk wq 0) (h1 : b1 = wBlk wq 1) (h2 : b2 = wBlk wq 2) (h3 : b3 = wBlk wq 3) :
    (Memref.whole cc0_scratch4).view.writes (Elt F) f
      [⟨Rect.unit (s := S1024x2048) ![0, 1536] S1024x512.size inb_S1024x2048_S1024x512_0_1536, k0_pay10 xb b3⟩,
        ⟨Rect.unit (s := S1024x2048) ![0, 1024] S1024x512.size inb_S1024x2048_S1024x512_0_1024, k0_pay9 xb b2⟩,
        ⟨Rect.unit (s := S1024x2048) ![0, 512] S1024x512.size inb_S1024x2048_S1024x512_0_512, k0_pay8 (k0_pay7 xb b1)⟩,
        ⟨Rect.unit (s := S1024x2048) ![0, 0] S1024x512.size inb_S1024x2048_S1024x512_0_0, k0_pay6 xb b0⟩] = qF xb wq := by
  subst h0 h1 h2 h3
  refine (View.read_whole cc0_scratch4 _).symm.trans (pieces_eq (Memref.whole cc0_scratch4).view f (qF xb wq) _ ?_ ?_)
  rotate_left
  · exact View.cover_of_tiledL (s := S1024x2048) _ S1024x512.size rfl
  simp only [List.forall_mem_cons]
  refine ⟨fun x => qPiece xb wq 3 _ rfl _ x, fun x => qPiece xb wq 2 _ rfl _ x, fun x => qPiece xb wq 1 _ rfl _ x, fun x => qPiece xb wq 0 _ rfl _ x, ?_⟩
  intro p hp; exact absurd hp List.not_mem_nil
theorem krF_writes (f : Vec F S2x512x32 .bf16) (xb : Vec F S1024x2048 .bf16) (wkr : Vec F S2048x32 .f32) :
    (Memref.whole cc0_scratch6).view.writes (Elt F) f
      [⟨Rect.unit (s := S2x512x32) ![1, 0, 0] S1x512x32.size inb_S2x512x32_S1x512x32_1_0_0, k0_pay51 xb wkr⟩,
        ⟨Rect.unit (s := S2x512x32) ![0, 0, 0] S1x512x32.size inb_S2x512x32_S1x512x32_0_0_0, k0_pay50 xb wkr⟩] = krF xb wkr := by
  refine (View.read_whole cc0_scratch6 _).symm.trans (pieces_eq (Memref.whole cc0_scratch6).view f (krF xb wkr) _ ?_ ?_)
  rotate_left
  · exact View.cover_of_tiledL (s := S2x512x32) _ S1x512x32.size rfl
  simp only [List.forall_mem_cons]
  refine ⟨fun x => krPiece xb wkr 1 (by decide) _ rfl _ _ rfl slices_S1024x32_o512_0_S512x32 x, fun x => krPiece xb wkr 0 (by decide) _ rfl _ _ rfl slices_S1024x32_o0_0_S512x32 x, ?_⟩
  intro p hp; exact absurd hp List.not_mem_nil
theorem qrF_writes (f : Vec F S32x512x32 .bf16) (xb : Vec F S1024x2048 .bf16) (wqr : Vec F S2048x512 .f32) :
    (Memref.whole cc0_scratch5).view.writes (Elt F) f
      [⟨Rect.unit (s := S32x512x32) ![31, 0, 0] S1x512x32.size inb_S32x512x32_S1x512x32_31_0_0, k0_pay48 (k0_pay11 xb wqr)⟩,
        ⟨Rect.unit (s := S32x512x32) ![30, 0, 0] S1x512x32.size inb_S32x512x32_S1x512x32_30_0_0, k0_pay47 (k0_pay11 xb wqr)⟩,
        ⟨Rect.unit (s := S32x512x32) ![29, 0, 0] S1x512x32.size inb_S32x512x32_S1x512x32_29_0_0, k0_pay46 (k0_pay45 (k0_pay11 xb wqr))⟩,
        ⟨Rect.unit (s := S32x512x32) ![28, 0, 0] S1x512x32.size inb_S32x512x32_S1x512x32_28_0_0, k0_pay44 (k0_pay11 xb wqr)⟩,
        ⟨Rect.unit (s := S32x512x32) ![27, 0, 0] S1x512x32.size inb_S32x512x32_S1x512x32_27_0_0, k0_pay43 (k0_pay11 xb wqr)⟩,
        ⟨Rect.unit (s := S32x512x32) ![26, 0, 0] S1x512x32.size inb_S32x512x32_S1x512x32_26_0_0, k0_pay42 (k0_pay11 xb wqr)⟩,
        ⟨Rect.unit (s := S32x512x32) ![25, 0, 0] S1x512x32.size inb_S32x512x32_S1x512x32_25_0_0, k0_pay41 (k0_pay11 xb wqr)⟩,
        ⟨Rect.unit (s := S32x512x32) ![24, 0, 0] S1x512x32.size inb_S32x512x32_S1x512x32_24_0_0, k0_pay40 (k0_pay11 xb wqr)⟩,
        ⟨Rect.unit (s := S32x512x32) ![23, 0, 0] S1x512x32.size inb_S32x512x32_S1x512x32_23_0_0, k0_pay39 (k0_pay11 xb wqr)⟩,
        ⟨Rect.unit (s := S32x512x32) ![22, 0, 0] S1x512x32.size inb_S32x512x32_S1x512x32_22_0_0, k0_pay38 (k0_pay37 (k0_pay11 xb wqr))⟩,
        ⟨Rect.unit (s := S32x512x32) ![21, 0, 0] S1x512x32.size inb_S32x512x32_S1x512x32_21_0_0, k0_pay36 (k0_pay11 xb wqr)⟩,
        ⟨Rect.unit (s := S32x512x32) ![20, 0, 0] S1x512x32.size inb_S32x512x32_S1x512x32_20_0_0, k0_pay35 (k0_pay11 xb wqr)⟩,
        ⟨Rect.unit (s := S32x512x32) ![19, 0, 0] S1x512x32.size inb_S32x512x32_S1x512x32_19_0_0, k0_pay34 (k0_pay11 xb wqr)⟩,
        ⟨Rect.unit (s := S32x512x32) ![18, 0, 0] S1x512x32.size inb_S32x512x32_S1x512x32_18_0_0, k0_pay33 (k0_pay11 xb wqr)⟩,
        ⟨Rect.unit (s := S32x512x32) ![17, 0, 0] S1x512x32.size inb_S32x512x32_S1x512x32_17_0_0, k0_pay32 (k0_pay11 xb wqr)⟩,
        ⟨Rect.unit (s := S32x512x32) ![16, 0, 0] S1x512x32.size inb_S32x512x32_S1x512x32_16_0_0, k0_pay31 (k0_pay11 xb wqr)⟩,
        ⟨Rect.unit (s := S32x512x32) ![15, 0, 0] S1x512x32.size inb_S32x512x32_S1x512x32_15_0_0, k0_pay30 (k0_pay29 (k0_pay11 xb wqr))⟩,
        ⟨Rect.unit (s := S32x512x32) ![14, 0, 0] S1x512x32.size inb_S32x512x32_S1x512x32_14_0_0, k0_pay28 (k0_pay11 xb wqr)⟩,
        ⟨Rect.unit (s := S32x512x32) ![13, 0, 0] S1x512x32.size inb_S32x512x32_S1x512x32_13_0_0, k0_pay27 (k0_pay11 xb wqr)⟩,
        ⟨Rect.unit (s := S32x512x32) ![12, 0, 0] S1x512x32.size inb_S32x512x32_S1x512x32_12_0_0, k0_pay26 (k0_pay11 xb wqr)⟩,
        ⟨Rect.unit (s := S32x512x32) ![11, 0, 0] S1x512x32.size inb_S32x512x32_S1x512x32_11_0_0, k0_pay25 (k0_pay11 xb wqr)⟩,
        ⟨Rect.unit (s := S32x512x32) ![10, 0, 0] S1x512x32.size inb_S32x512x32_S1x512x32_10_0_0, k0_pay24 (k0_pay11 xb wqr)⟩,
        ⟨Rect.unit (s := S32x512x32) ![9, 0, 0] S1x512x32.size inb_S32x512x32_S1x512x32_9_0_0, k0_pay23 (k0_pay22 (k0_pay11 xb wqr))⟩,
        ⟨Rect.unit (s := S32x512x32) ![8, 0, 0] S1x512x32.size inb_S32x512x32_S1x512x32_8_0_0, k0_pay21 (k0_pay11 xb wqr)⟩,
        ⟨Rect.unit (s := S32x512x32) ![7, 0, 0] S1x512x32.size inb_S32x512x32_S1x512x32_7_0_0, k0_pay20 (k0_pay11 xb wqr)⟩,
        ⟨Rect.unit (s := S32x512x32) ![6, 0, 0] S1x512x32.size inb_S32x512x32_S1x512x32_6_0_0, k0_pay19 (k0_pay11 xb wqr)⟩,
        ⟨Rect.unit (s := S32x512x32) ![5, 0, 0] S1x512x32.size inb_S32x512x32_S1x512x32_5_0_0, k0_pay18 (k0_pay11 xb wqr)⟩,
        ⟨Rect.unit (s := S32x512x32) ![4, 0, 0] S1x512x32.size inb_S32x512x32_S1x512x32_4_0_0, k0_pay17 (k0_pay11 xb wqr)⟩,
        ⟨Rect.unit (s := S32x512x32) ![3, 0, 0] S1x512x32.size inb_S32x512x32_S1x512x32_3_0_0, k0_pay16 (k0_pay11 xb wqr)⟩,
        ⟨Rect.unit (s := S32x512x32) ![2, 0, 0] S1x512x32.size inb_S32x512x32_S1x512x32_2_0_0, k0_pay15 (k0_pay14 xb wqr)⟩,
        ⟨Rect.unit (s := S32x512x32) ![1, 0, 0] S1x512x32.size inb_S32x512x32_S1x512x32_1_0_0, k0_pay13 xb wqr⟩,
        ⟨Rect.unit (s := S32x512x32) ![0, 0, 0] S1x512x32.size inb_S32x512x32_S1x512x32_0_0_0, k0_pay12 xb wqr⟩] = qrF xb wqr := by
  refine (View.read_whole cc0_scratch5 _).symm.trans (pieces_eq (Memref.whole cc0_scratch5).view f (qrF xb wqr) _ ?_ ?_)
  rotate_left
  · exact View.cover_of_tiledL (s := S32x512x32) _ S1x512x32.size rfl
  simp only [List.forall_mem_cons]
  refine ⟨fun x => qrPiece xb wqr 1 15 (by decide) (by decide) _ rfl _ _ rfl slices_S1024x512_o512_480_S512x32 x,
    fun x => qrPiece xb wqr 1 14 (by decide) (by decide) _ rfl _ _ rfl slices_S1024x512_o512_448_S512x32 x,
    fun x => qrPiece xb wqr 1 13 (by decide) (by decide) _ rfl _ _ rfl slices_S1024x512_o512_416_S512x32 x,
    fun x => qrPiece xb wqr 1 12 (by decide) (by decide) _ rfl _ _ rfl slices_S1024x512_o512_384_S512x32 x,
    fun x => qrPiece xb wqr 1 11 (by decide) (by decide) _ rfl _ _ rfl slices_S1024x512_o512_352_S512x32 x,
    fun x => qrPiece xb wqr 1 10 (by decide) (by decide) _ rfl _ _ rfl slices_S1024x512_o512_320_S512x32 x,
    fun x => qrPiece xb wqr 1 9 (by decide) (by decide) _ rfl _ _ rfl slices_S1024x512_o512_288_S512x32 x,
    fun x => qrPiece xb wqr 1 8 (by decide) (by decide) _ rfl _ _ rfl slices_S1024x512_o512_256_S512x32 x,
    fun x => qrPiece xb wqr 1 7 (by decide) (by decide) _ rfl _ _ rfl slices_S1024x512_o512_224_S512x32 x,
    fun x => qrPiece xb wqr 1 6 (by decide) (by decide) _ rfl _ _ rfl slices_S1024x512_o512_192_S512x32 x,
    fun x => qrPiece xb wqr 1 5 (by decide) (by decide) _ rfl _ _ rfl slices_S1024x512_o512_160_S512x32 x,
    fun x => qrPiece xb wqr 1 4 (by decide) (by decide) _ rfl _ _ rfl slices_S1024x512_o512_128_S512x32 x,
    fun x => qrPiece xb wqr 1 3 (by decide) (by decide) _ rfl _ _ rfl slices_S1024x512_o512_96_S512x32 x,
    fun x => qrPiece xb wqr 1 2 (by decide) (by decide) _ rfl _ _ rfl slices_S1024x512_o512_64_S512x32 x,
    fun x => qrPiece xb wqr 1 1 (by decide) (by decide) _ rfl _ _ rfl slices_S1024x512_o512_32_S512x32 x,
    fun x => qrPiece xb wqr 1 0 (by decide) (by decide) _ rfl _ _ rfl slices_S1024x512_o512_0_S512x32 x,
    fun x => qrPiece xb wqr 0 15 (by decide) (by decide) _ rfl _ _ rfl slices_S1024x512_o0_480_S512x32 x,
    fun x => qrPiece xb wqr 0 14 (by decide) (by decide) _ rfl _ _ rfl slices_S1024x512_o0_448_S512x32 x,
    fun x => qrPiece xb wqr 0 13 (by decide) (by decide) _ rfl _ _ rfl slices_S1024x512_o0_416_S512x32 x,
    fun x => qrPiece xb wqr 0 12 (by decide) (by decide) _ rfl _ _ rfl slices_S1024x512_o0_384_S512x32 x,
    fun x => qrPiece xb wqr 0 11 (by decide) (by decide) _ rfl _ _ rfl slices_S1024x512_o0_352_S512x32 x,
    fun x => qrPiece xb wqr 0 10 (by decide) (by decide) _ rfl _ _ rfl slices_S1024x512_o0_320_S512x32 x,
    fun x => qrPiece xb wqr 0 9 (by decide) (by decide) _ rfl _ _ rfl slices_S1024x512_o0_288_S512x32 x,
    fun x => qrPiece xb wqr 0 8 (by decide) (by decide) _ rfl _ _ rfl slices_S1024x512_o0_256_S512x32 x,
    fun x => qrPiece xb wqr 0 7 (by decide) (by decide) _ rfl _ _ rfl slices_S1024x512_o0_224_S512x32 x,
    fun x => qrPiece xb wqr 0 6 (by decide) (by decide) _ rfl _ _ rfl slices_S1024x512_o0_192_S512x32 x,
    fun x => qrPiece xb wqr 0 5 (by decide) (by decide) _ rfl _ _ rfl slices_S1024x512_o0_160_S512x32 x,
    fun x => qrPiece xb wqr 0 4 (by decide) (by decide) _ rfl _ _ rfl slices_S1024x512_o0_128_S512x32 x,
    fun x => qrPiece xb wqr 0 3 (by decide) (by decide) _ rfl _ _ rfl slices_S1024x512_o0_96_S512x32 x,
    fun x => qrPiece xb wqr 0 2 (by decide) (by decide) _ rfl _ _ rfl slices_S1024x512_o0_64_S512x32 x,
    fun x => qrPiece xb wqr 0 1 (by decide) (by decide) _ rfl _ _ rfl slices_S1024x512_o0_32_S512x32 x,
    fun x => qrPiece xb wqr 0 0 (by decide) (by decide) _ rfl _ _ rfl slices_S1024x512_o0_0_S512x32 x, ?_⟩
  intro p hp; exact absurd hp List.not_mem_nil

end Cert.KernelIdeal.Mla
-- ==== Proof.StageA.lean ====
module

public import proofs.«01_k».proof.Proof.Rules
public import proofs.«01_k».proof.Proof.Pieces
public import proofs.«01_k».proof.Proof.Forms
public import Idealize.ShloMosaic.Lib.Pipeline.Value

@[expose] public section

noncomputable section

namespace Cert.KernelIdeal.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F] [Named F]

local notation "𝕄" => MT nD τ sig Unit (Elt F) ℕ UU ℕ

variable (wc : Dev nD → Vec F S1024x128 .bf16) (wk wv : Dev nD → Vec F S128x2048 .bf16)

/-! ## The halves of the exchanged buffers -/

theorem wholeC (c : Dev nD) (f : Buf (Elt F) ((c : Thread nD τ).loc cc0_scratch1)) : held c cc0_scratch1 fullShare f ⊣⊢ iprop(halfC c c f ∗ halfC c (ptn c) f) := by
  unfold held halfC
  exact unionC c ▸ pointsTo_union (disjC c)
theorem wholeU (c : Dev nD) (f : Buf (Elt F) ((c : Thread nD τ).loc cc0_scratch2)) : held c cc0_scratch2 fullShare f ⊣⊢ iprop(halfU c c f ∗ halfU c (ptn c) f) := by
  unfold held halfU
  exact unionU c ▸ pointsTo_union (disjU c)
theorem wholeV (c : Dev nD) (f : Buf (Elt F) ((c : Thread nD τ).loc cc0_scratch3)) : held c cc0_scratch3 fullShare f ⊣⊢ iprop(halfV c c f ∗ halfV c (ptn c) f) := by
  unfold held halfV
  exact unionU c ▸ pointsTo_union (disjU c)

theorem shareK (c : Dev nD) : held c cc0_stg2_0 fullShare (wk c : Buf (Elt F) ((c : Thread nD τ).loc cc0_stg2_0)) ⊣⊢ iprop(lentK wk c ∗ held c cc0_stg2_0 fullShare.right (wk c : Buf (Elt F) ((c : Thread nD τ).loc cc0_stg2_0))) := by
  unfold held lentK
  rw [View.set_whole]
  exact pointsTo_share (PosShare.mem_left_op_right fullShare)
theorem shareV (c : Dev nD) : held c cc0_stg3_0 fullShare (wv c : Buf (Elt F) ((c : Thread nD τ).loc cc0_stg3_0)) ⊣⊢ iprop(lentV wv c ∗ held c cc0_stg3_0 fullShare.right (wv c : Buf (Elt F) ((c : Thread nD τ).loc cc0_stg3_0))) := by
  unfold held lentV
  rw [View.set_whole]
  exact pointsTo_share (PosShare.mem_left_op_right fullShare)

/-! ## A half through the rectangle that a load or a store names -/

theorem wp_loadC (c : Dev nD) (off : Fin 2 → ℕ) (h : off = k0_off3 c) (inb) {hl} {α : Type} {Q : α → sProp 𝕄} {k : _ → Prog (TpuEff nD τ sig (Elt F) Λ₀ .tc) α} (f) :
    halfC c c f ⊢ iprop((halfC c c f -∗ wp frame (wpE (defs₀ (F := F)) 𝒱₀ (c : Thread nD τ) none) Set.univ (k (cM.view.readAt (Elt F) (Rect.unit (s := S1024x256) off S1024x128.size inb).toLoadRect f)) Q)
      -∗ wp frame (wpE (defs₀ (F := F)) 𝒱₀ (c : Thread nD τ) none) Set.univ (.op (.load cM (Rect.unit (s := S1024x256) off S1024x128.size inb).toLoadRect hl) k) Q) := by
  subst h; unfold halfC
  exact wp_load 𝒱₀ (c : Thread nD τ) none Set.univ (m := cM) (S := (hC c).view.set) (View.set_slice _ _).ge
theorem wp_storeC (c : Dev nD) (off : Fin 2 → ℕ) (h : off = k0_off3 c) (inb) {hx hm} {Q : PUnit → sProp 𝕄} (f) (w) (hw : w = wc c) :
    halfC c c f ⊢ iprop((halfC c c (stackC wc c) -∗ Q ⟨⟩)
      -∗ wp frame (wpE (defs₀ (F := F)) 𝒱₀ (c : Thread nD τ) none) Set.univ (Prog.lift (.store cM (Rect.unit (s := S1024x256) off S1024x128.size inb) w Finset.univ hx hm)) Q) := by
  subst h hw; unfold halfC
  have e : (((c : Thread nD τ).loc cc0_scratch1) ↦[(hC c).view.set]{fullShare} ((hC c).view.write (Elt F) f (wc c) Finset.univ) : sProp 𝕄)
      = (((c : Thread nD τ).loc cc0_scratch1) ↦[(hC c).view.set]{fullShare} stackC wc c) := pointsTo_congr fun i hi => writeC wc c f i hi
  rw [← e]
  unfold Prog.lift
  iintro H Hk
  iapply (wp_store 𝒱₀ (c : Thread nD τ) none Set.univ (m := cM) (r := Rect.unit (s := S1024x256) (k0_off3 c) S1024x128.size inb) (S := (hC c).view.set) (Finset.Subset.refl _)) $$ H; iintro H
  rw [wp_ret]; imodintro
  iapply Hk; iexact H

theorem wp_loadU (c : Dev nD) (off : Fin 2 → ℕ) (h : off = k0_off1 c) (inb) {hl} {α : Type} {Q : α → sProp 𝕄} {k : _ → Prog (TpuEff nD τ sig (Elt F) Λ₀ .tc) α} (f) :
    halfU c c f ⊢ iprop((halfU c c f -∗ wp frame (wpE (defs₀ (F := F)) 𝒱₀ (c : Thread nD τ) none) Set.univ (k (ukM.view.readAt (Elt F) (Rect.unit (s := S256x2048) off S128x2048.size inb).toLoadRect f)) Q)
      -∗ wp frame (wpE (defs₀ (F := F)) 𝒱₀ (c : Thread nD τ) none) Set.univ (.op (.load ukM (Rect.unit (s := S256x2048) off S128x2048.size inb).toLoadRect hl) k) Q) := by
  subst h; unfold halfU
  exact wp_load 𝒱₀ (c : Thread nD τ) none Set.univ (m := ukM) (S := (hU c).view.set) (View.set_slice _ _).ge
theorem wp_storeU (c : Dev nD) (off : Fin 2 → ℕ) (h : off = k0_off1 c) (inb) {hx hm} {Q : PUnit → sProp 𝕄} (f) (w) (hw : w = wk c) :
    halfU c c f ⊢ iprop((halfU c c (stackU wk c) -∗ Q ⟨⟩)
      -∗ wp frame (wpE (defs₀ (F := F)) 𝒱₀ (c : Thread nD τ) none) Set.univ (Prog.lift (.store ukM (Rect.unit (s := S256x2048) off S128x2048.size inb) w Finset.univ hx hm)) Q) := by
  subst h hw; unfold halfU
  have e : (((c : Thread nD τ).loc cc0_scratch2) ↦[(hU c).view.set]{fullShare} ((hU c).view.write (Elt F) f (wk c) Finset.univ) : sProp 𝕄)
      = (((c : Thread nD τ).loc cc0_scratch2) ↦[(hU c).view.set]{fullShare} stackU wk c) := pointsTo_congr fun i hi => writeU wk c f i hi
  rw [← e]
  unfold Prog.lift
  iintro H Hk
  iapply (wp_store 𝒱₀ (c : Thread nD τ) none Set.univ (m := ukM) (r := Rect.unit (s := S256x2048) (k0_off1 c) S128x2048.size inb) (S := (hU c).view.set) (Finset.Subset.refl _)) $$ H; iintro H
  rw [wp_ret]; imodintro
  iapply Hk; iexact H
theorem wp_loadV (c : Dev nD) (off : Fin 2 → ℕ) (h : off = k0_off1 c) (inb) {hl} {α : Type} {Q : α → sProp 𝕄} {k : _ → Prog (TpuEff nD τ sig (Elt F) Λ₀ .tc) α} (f) :
    halfV c c f ⊢ iprop((halfV c c f -∗ wp frame (wpE (defs₀ (F := F)) 𝒱₀ (c : Thread nD τ) none) Set.univ (k (uvM.view.readAt (Elt F) (Rect.unit (s := S256x2048) off S128x2048.size inb).toLoadRect f)) Q)
      -∗ wp frame (wpE (defs₀ (F := F)) 𝒱₀ (c : Thread nD τ) none) Set.univ (.op (.load uvM (Rect.unit (s := S256x2048) off S128x2048.size inb).toLoadRect hl) k) Q) := by
  subst h; unfold halfV
  exact wp_load 𝒱₀ (c : Thread nD τ) none Set.univ (m := uvM) (S := (hV c).view.set) (View.set_slice _ _).ge
theorem wp_storeV (c : Dev nD) (off : Fin 2 → ℕ) (h : off = k0_off1 c) (inb) {hx hm} {Q : PUnit → sProp 𝕄} (f) (w) (hw : w = wv c) :
    halfV c c f ⊢ iprop((halfV c c (stackU wv c) -∗ Q ⟨⟩)
      -∗ wp frame (wpE (defs₀ (F := F)) 𝒱₀ (c : Thread nD τ) none) Set.univ (Prog.lift (.store uvM (Rect.unit (s := S256x2048) off S128x2048.size inb) w Finset.univ hx hm)) Q) := by
  subst h hw; unfold halfV
  have e : (((c : Thread nD τ).loc cc0_scratch3) ↦[(hV c).view.set]{fullShare} ((hV c).view.write (Elt F) f (wv c) Finset.univ) : sProp 𝕄)
      = (((c : Thread nD τ).loc cc0_scratch3) ↦[(hV c).view.set]{fullShare} stackU wv c) := pointsTo_congr fun i hi => writeV wv c f i hi
  rw [← e]
  unfold Prog.lift
  iintro H Hk
  iapply (wp_store 𝒱₀ (c : Thread nD τ) none Set.univ (m := uvM) (r := Rect.unit (s := S256x2048) (k0_off1 c) S128x2048.size inb) (S := (hV c).view.set) (Finset.Subset.refl _)) $$ H; iintro H
  rw [wp_ret]; imodintro
  iapply Hk; iexact H
theorem off23 (c : Dev nD) : k0_off2 c = k0_off3 c := (off2_eq c).trans (off3_eq c).symm
theorem off41 (c : Dev nD) : k0_off4 c = k0_off1 c := (off4_eq c).trans (off1_eq c).symm

theorem pay4_id (w : Vec F S128x2048 .bf16) : k0_pay4 w = w := by unfold k0_pay4; simp only [shapeCast_self]
theorem pay5_id (w : Vec F S128x2048 .bf16) : k0_pay5 w = w := by unfold k0_pay5; simp only [shapeCast_self]

/-- What a transfer's cell hands over in its round. -/
theorem pay_at (c : Dev nD) (s : SemLoc sig) (h : inRound (cellNo s)) :
    bigSep ((Rd wc wk wv).duties ((c : Thread nD τ), s) 0) (fun d => (Rd wc wk wv).payload ((c : Thread nD τ), s) 0 d) = payTab wc wk wv c (cellNo s) := by
  rw [duties_at wc wk wv c s h, bigSep_singleton]; rfl
theorem got_sd0 (c : Dev nD) : bigSep ((Rd wc wk wv).duties (dmaC c sd0) 0) (fun d => (Rd wc wk wv).payload (dmaC c sd0) 0 d) ⊢ halfC c c (stackC wc c) :=
  (Entails.of_eq (pay_at wc wk wv c (.dma sd0) (by decide)))
theorem got_sd1 (c : Dev nD) : bigSep ((Rd wc wk wv).duties (dmaC c sd1) 0) (fun d => (Rd wc wk wv).payload (dmaC c sd1) 0 d) ⊢ lentK wk c :=
  (Entails.of_eq (pay_at wc wk wv c (.dma sd1) (by decide)))
theorem got_sd2 (c : Dev nD) : bigSep ((Rd wc wk wv).duties (dmaC c sd2) 0) (fun d => (Rd wc wk wv).payload (dmaC c sd2) 0 d) ⊢ lentV wv c :=
  (Entails.of_eq (pay_at wc wk wv c (.dma sd2) (by decide)))
theorem got_rv0 (c : Dev nD) : bigSep ((Rd wc wk wv).duties (dmaC c rv0) 0) (fun d => (Rd wc wk wv).payload (dmaC c rv0) 0 d) ⊢ halfC c (ptn c) (stackC wc c) :=
  (Entails.of_eq (pay_at wc wk wv c (.dma rv0) (by decide)))
theorem got_rv1 (c : Dev nD) : bigSep ((Rd wc wk wv).duties (dmaC c rv1) 0) (fun d => (Rd wc wk wv).payload (dmaC c rv1) 0 d) ⊢ halfU c (ptn c) (stackU wk c) :=
  (Entails.of_eq (pay_at wc wk wv c (.dma rv1) (by decide)))
theorem got_rv2 (c : Dev nD) : bigSep ((Rd wc wk wv).duties (dmaC c rv2) 0) (fun d => (Rd wc wk wv).payload (dmaC c rv2) 0 d) ⊢ halfV c (ptn c) (stackU wv c) :=
  (Entails.of_eq (pay_at wc wk wv c (.dma rv2) (by decide)))

/-- The kernel's eight private semaphores, at zero. -/
def freeSems (c : Dev nD) : sProp 𝕄 :=
  iprop(semVal (dmaC c sd0) 0 ∗ semVal (dmaC c sd1) 0 ∗ semVal (dmaC c sd2) 0 ∗ semVal (dmaC c rv0) 0 ∗ semVal (dmaC c rv1) 0 ∗ semVal (dmaC c rv2) 0
    ∗ semVal (dmaC c ⟨13, by decide⟩) 0 ∗ semVal (dmaC c ⟨14, by decide⟩) 0)

/-- What the exchange and the projections leave: the arguments, the queries, the rotary parts, the keys and the values. -/
def afterA (c : Dev nD) (x : Buf (Elt F) ((c : Thread nD τ).loc cc0_stg0_0)) (wd : Buf (Elt F) ((c : Thread nD τ).loc cc0_stg1_0))
    (wq : Buf (Elt F) ((c : Thread nD τ).loc main_arg4)) (wqr : Buf (Elt F) ((c : Thread nD τ).loc cc0_stg4_0)) (wkr : Buf (Elt F) ((c : Thread nD τ).loc cc0_stg5_0)) : sProp 𝕄 :=
  iprop((∃ W, owes (c : Thread nD τ) 0 W) ∗ semVal (barC c) 0 ∗ freeSems c
    ∗ held c cc0_stg0_0 fullShare x ∗ held c cc0_stg1_0 fullShare wd ∗ held c cc0_stg2_0 fullShare (wk c : Buf (Elt F) ((c : Thread nD τ).loc cc0_stg2_0)) ∗ held c cc0_stg3_0 fullShare (wv c : Buf (Elt F) ((c : Thread nD τ).loc cc0_stg3_0))
    ∗ held c main_arg4 fullShare wq ∗ held c cc0_stg4_0 fullShare wqr ∗ held c cc0_stg5_0 fullShare wkr
    ∗ (∃ f, held c cc0_scratch0 fullShare f) ∗ (∃ f, held c cc0_scratch1 fullShare f) ∗ (∃ f, held c cc0_scratch2 fullShare f) ∗ (∃ f, held c cc0_scratch3 fullShare f)
    ∗ held c cc0_scratch4 fullShare (qF (k0_pay2 x) wq) ∗ held c cc0_scratch5 fullShare (qrF (k0_pay2 x) wqr) ∗ held c cc0_scratch6 fullShare (krF (k0_pay2 x) wkr)
    ∗ held c cc0_scratch7 fullShare (k0_pay52 (stackC wc c) (stackU wk c)) ∗ held c cc0_scratch8 fullShare (k0_pay53 (stackC wc c) (stackU wv c))
    ∗ (∃ f, held c cc0_scratch10 fullShare f))

set_option sl_exec.squeezeSlice true in
set_option sl_exec.dmaWindow true in
set_option maxRecDepth 65536 in
set_option maxHeartbeats 800000 in
theorem stageA (K : Dev nD × Fin 7 → ℕ) (c : Dev nD) (W : Waits sig Unit) (Kt : PUnit → sProp 𝕄)
    (x : Buf (Elt F) ((c : Thread nD τ).loc cc0_stg0_0)) (wd : Buf (Elt F) ((c : Thread nD τ).loc cc0_stg1_0))
    (wq : Buf (Elt F) ((c : Thread nD τ).loc main_arg4)) (wqr : Buf (Elt F) ((c : Thread nD τ).loc cc0_stg4_0)) (wkr : Buf (Elt F) ((c : Thread nD τ).loc cc0_stg5_0))
    (f0 : Buf (Elt F) ((c : Thread nD τ).loc cc0_scratch0)) (f1 : Buf (Elt F) ((c : Thread nD τ).loc cc0_scratch1)) (f2 : Buf (Elt F) ((c : Thread nD τ).loc cc0_scratch2))
    (f3 : Buf (Elt F) ((c : Thread nD τ).loc cc0_scratch3)) (f4 : Buf (Elt F) ((c : Thread nD τ).loc cc0_scratch4)) (f5 : Buf (Elt F) ((c : Thread nD τ).loc cc0_scratch5))
    (f6 : Buf (Elt F) ((c : Thread nD τ).loc cc0_scratch6)) (f7 : Buf (Elt F) ((c : Thread nD τ).loc cc0_scratch7)) (f8 : Buf (Elt F) ((c : Thread nD τ).loc cc0_scratch8))
    (f10 : Buf (Elt F) ((c : Thread nD τ).loc cc0_scratch10)) (hwc : wc c = k0_pay3 (k0_pay2 x) wd) :
    iprop(startG wc wk wv K c ∗ owes (c : Thread nD τ) (O₀ c) W ∗ semVal (dmaC c ⟨13, by decide⟩) 0 ∗ semVal (dmaC c ⟨14, by decide⟩) 0
      ∗ held c cc0_stg0_0 fullShare x ∗ held c cc0_stg1_0 fullShare wd ∗ held c cc0_stg2_0 fullShare (wk c : Buf (Elt F) ((c : Thread nD τ).loc cc0_stg2_0)) ∗ held c cc0_stg3_0 fullShare (wv c : Buf (Elt F) ((c : Thread nD τ).loc cc0_stg3_0))
      ∗ held c main_arg4 fullShare wq ∗ held c cc0_stg4_0 fullShare wqr ∗ held c cc0_stg5_0 fullShare wkr
      ∗ held c cc0_scratch0 fullShare f0 ∗ held c cc0_scratch1 fullShare f1 ∗ held c cc0_scratch2 fullShare f2 ∗ held c cc0_scratch3 fullShare f3
      ∗ held c cc0_scratch4 fullShare f4 ∗ held c cc0_scratch5 fullShare f5 ∗ held c cc0_scratch6 fullShare f6 ∗ held c cc0_scratch7 fullShare f7
      ∗ held c cc0_scratch8 fullShare f8 ∗ held c cc0_scratch10 fullShare f10
      ∗ (afterA wc wk wv c x wd wq wqr wkr -∗ Kt ⟨⟩))
      ⊢ wp frame (wpE (defs₀ (F := F)) 𝒱₀ c none) Set.univ headA Kt := by
  rw [headA_eq]; unfold headB
  rw [show (Prog.lift .deviceId >>= headC : Prog (TpuEff nD τ sig (Elt F) Λ₀ .tc) PUnit) = .op .deviceId headC from rfl, wp_deviceId]
  show _ ⊢ wp frame (wpE (defs₀ (F := F)) 𝒱₀ c none) Set.univ (headC c) Kt
  unfold headC
  unfold startG ghost invs payToks
  iintro ⟨⟨⟨⟨#HIb, #HIs0, #HIs1, #HIs2, #HIr0, #HIr1, #HIr2, #HIbP, #HIr0P, #HIr1P, #HIr2P⟩, Hab, Has0, Has1, Has2, Har0, Har1, Har2,
    #HrbP, #Hrs0, #Hrs1, #Hrs2, #Hrr0, #Hrr1, #Hrr2, HtbP, Htr0P, Htr1P, Htr2P, Hts0, Hts1, Hts2⟩, Hcb, Hcr0, Hcr1, Hcr2, #Hlev⟩,
    HO, Hz0, Hz1, Hx, Hwd, Hwk, Hwv, Hwq, Hwqr, Hwkr, H0, H1, H2, H3, H4, H5, H6, H7, H8, H10, HK⟩
  ihave H1' := (wholeC c f1).1 $$ H1
  icases H1' with ⟨H1, H1p⟩
  ihave H2' := (wholeU c f2).1 $$ H2
  icases H2' with ⟨H2, H2p⟩
  ihave H3' := (wholeV c f3).1 $$ H3
  icases H3' with ⟨H3, H3p⟩
  unfold O₀
  rw [wp_bind]; unfold hSig semSignalWord
  iapply (Rounds.wp_signal 𝒱₀ ER (Rd wc wk wv) (c : Thread nD τ) none (dst := (ptn c : Thread nD τ)) (κ := K (ptn c, 0))
      (d := ()) (mem_duties wc wk wv (ptn c) (.reg barS) (by decide)) ((amount_at wc wk wv _ _ _).trans rfl) () (O₁ c) rfl)
    $$ [HO HtbP H1p H2p H3p]
  · isplitr; · iexact HIbP
    isplitl [HO]; · iexact HO
    isplitl [HtbP]; · iexact HtbP
    isplitl [H1p H2p H3p]
    · rw [pay_bar]; unfold barPay; rw [ptn_ptn]
      isplitl [H1p]; · iexists f1; iexact H1p
      isplitl [H2p]; · iexists f2; iexact H2p
      isplitl [H3p]; · iexists f3; iexact H3p
      isplitr; · iexact Hrr0
      isplitr; · iexact Hrr1
      iexact Hrr2
    · iexact HrbP
  iintro HO
  rw [wp_ret]; imodintro; rw [wp_bind]; unfold hWait semWaitWord
  iapply (Rounds.wp_wait_rest_token 𝒱₀ ER (Rd wc wk wv) (c : Thread nD τ) none (κ := K (c, 0))
      (wpE_semWait_eq 𝒱₀ (c : Thread nD τ) none Set.univ) (Set.mem_univ _) () (O := O₁ c) (W := W) (R := 0) (m := 0) (T := ∅)
      (by rw [expect_at wc wk wv c (.reg barS) (by decide)]; decide)) $$ [Hcb HO Hab]
  · isplitr; · iexact HIb
    isplitl [Hcb]; · iexact Hcb
    isplitl [HO]; · iexact HO
    isplitr; · iapply (mayWait_bar c); iexact Hlev
    iexact Hab
  iintro ⟨HO, Hab, -, Hpay⟩
  rw [wp_ret]; imodintro
  ihave Hp2 := (Entails.of_eq (rest_at wc wk wv c (.reg barS) (by decide))) $$ Hpay
  ihave Hp3 := (show payTab wc wk wv c (cellNo (.reg barS)) ⊢ iprop((∃ f, halfC (ptn c) c f) ∗ (∃ f, halfU (ptn c) c f) ∗ (∃ f, halfV (ptn c) c f)
    ∗ reached ER (dmaC (ptn c) rv0) 0 ∗ reached ER (dmaC (ptn c) rv1) 0 ∗ reached ER (dmaC (ptn c) rv2) 0) from BI.Entails.refl _) $$ Hp2
  icases Hp3 with ⟨⟨%g1, G1⟩, ⟨%g2, G2⟩, ⟨%g3, G3⟩, #HrP0, #HrP1, #HrP2⟩
  ihave HwkS := (shareK wk c).1 $$ Hwk
  icases HwkS with ⟨HwkL, HwkR⟩
  ihave HwvS := (shareV wv c).1 $$ Hwv
  icases HwvS with ⟨HwvL, HwvR⟩
  rw [wp_bind]; unfold hSendK Prog.lift
  iapply (wp_send_K wc wk wv K c _ rfl g2 _) $$ [HwkL G2 HO Hts1 Htr1P]
  · isplitr; · iexact HIs1
    isplitr; · iexact HIr1P
    isplitl [HwkL]; · iexact HwkL
    isplitl [G2]; · iexact G2
    isplitl [HO]; · iexact HO
    isplitl [Hts1]; · iexact Hts1
    isplitr; · iexact Hrs1
    isplitl [Htr1P]; · iexact Htr1P
    iexact HrP1
  iintro ⟨Hcs1, HO⟩
  rw [wp_ret]; imodintro
  rw [wp_bind]; unfold hSendV Prog.lift
  iapply (wp_send_V wc wk wv K c _ rfl g3 _) $$ [HwvL G3 HO Hts2 Htr2P]
  · isplitr; · iexact HIs2
    isplitr; · iexact HIr2P
    isplitl [HwvL]; · iexact HwvL
    isplitl [G3]; · iexact G3
    isplitl [HO]; · iexact HO
    isplitl [Hts2]; · iexact Hts2
    isplitr; · iexact Hrs2
    isplitl [Htr2P]; · iexact Htr2P
    iexact HrP2
  iintro ⟨Hcs2, HO⟩
  rw [wp_ret]; imodintro
  rw [wp_bind]; unfold seg1
  unfold held
  sl_exec
  iapply (wp_loadC c _ (off23 c) _ f1) $$ H1; iintro H1
  rw [wp_bind]
  iapply (wp_storeC wc c _ (off23 c) _ f1 _ ((congrArg₂ k0_pay3 (xb_read x) (Memref.readAt_unit_zero (Elt F) cc0_stg1_0 zero2 _ wd)).trans hwc.symm)) $$ H1; iintro H1
  rw [Prog.pure_eq_ret, wp_ret]; imodintro
  rw [wp_bind]; unfold hSendC Prog.lift
  iapply (wp_send_C wc wk wv K c _ rfl g1 _) $$ [H1 G1 HO Hts0 Htr0P]
  · isplitr; · iexact HIs0
    isplitr; · iexact HIr0P
    isplitl [H1]; · iexact H1
    isplitl [G1]; · iexact G1
    isplitl [HO]; · iexact HO
    isplitl [Hts0]; · iexact Hts0
    isplitr; · iexact Hrs0
    isplitl [Htr0P]; · iexact Htr0P
    iexact HrP0
  iintro ⟨Hcs0, HO⟩
  rw [wp_ret]; imodintro
  rw [wp_bind]; unfold seg2
  sl_exec
  iapply (wp_loadU c _ (off41 c) _ f2) $$ H2; iintro H2
  rw [wp_bind]
  iapply (wp_storeU wk c _ (off41 c) _ f2 _ ((pay4_id _).trans (Memref.readAt_unit_zero (Elt F) cc0_stg2_0 zero2 _ (wk c)))) $$ H2; iintro H2
  sl_exec
  iapply (wp_loadV c _ (off41 c) _ f3) $$ H3; iintro H3
  rw [wp_bind]
  iapply (wp_storeV wv c _ (off41 c) _ f3 _ ((pay5_id _).trans (Memref.readAt_unit_zero (Elt F) cc0_stg3_0 zero2 _ (wv c)))) $$ H3; iintro H3
  sl_exec

  ihave P0 := (got_sd0 wc wk wv c) $$ Has0_pay1
  ihave P0p := (got_rv0 wc wk wv c) $$ Har0_pay1
  ihave P1 := (got_sd1 wc wk wv c) $$ Has1_pay1
  ihave P1p := (got_rv1 wc wk wv c) $$ Har1_pay1
  ihave P2 := (got_sd2 wc wk wv c) $$ Has2_pay1
  ihave P2p := (got_rv2 wc wk wv c) $$ Har2_pay1
  ihave H1 := (wholeC c (stackC wc c)).2 $$ [P0 P0p]
  · isplitl [P0]; · iexact P0
    iexact P0p
  ihave H2 := (wholeU c (stackU wk c)).2 $$ [H2 P1p]
  · isplitl [H2]; · iexact H2
    iexact P1p
  ihave H3 := (wholeV c (stackU wv c)).2 $$ [H3 P2p]
  · isplitl [H3]; · iexact H3
    iexact P2p
  ihave Hwk := (shareK wk c).2 $$ [P1 HwkR]
  · isplitl [P1]; · iexact P1
    unfold held; iexact HwkR
  ihave Hwv := (shareV wv c).2 $$ [P2 HwvR]
  · isplitl [P2]; · iexact P2
    unfold held; iexact HwvR
  unfold held
  sl_exec
  rw [wp_ret]
  imod (Rounds.cell_close ER (Rd wc wk wv) (Set.mem_univ (K (c, 0))) (fun h => h) (R := 0 + 1) (duties_later wc wk wv (barC c))) $$ [Hab] with Zb
  · isplitr; · iexact HIb
    iexact Hab
  imod (Rounds.cell_close ER (Rd wc wk wv) (Set.mem_univ (K (c, 1))) (fun h => h) (R := 1) (duties_later wc wk wv (dmaC c sd0))) $$ [Has0] with Zs0
  · isplitr; · iexact HIs0
    iexact Has0
  imod (Rounds.cell_close ER (Rd wc wk wv) (Set.mem_univ (K (c, 2))) (fun h => h) (R := 1) (duties_later wc wk wv (dmaC c sd1))) $$ [Has1] with Zs1
  · isplitr; · iexact HIs1
    iexact Has1
  imod (Rounds.cell_close ER (Rd wc wk wv) (Set.mem_univ (K (c, 3))) (fun h => h) (R := 1) (duties_later wc wk wv (dmaC c sd2))) $$ [Has2] with Zs2
  · isplitr; · iexact HIs2
    iexact Has2
  imod (Rounds.cell_close ER (Rd wc wk wv) (Set.mem_univ (K (c, 4))) (fun h => h) (R := 1) (duties_later wc wk wv (dmaC c rv0))) $$ [Har0] with Zr0
  · isplitr; · iexact HIr0
    iexact Har0
  imod (Rounds.cell_close ER (Rd wc wk wv) (Set.mem_univ (K (c, 5))) (fun h => h) (R := 1) (duties_later wc wk wv (dmaC c rv1))) $$ [Har1] with Zr1
  · isplitr; · iexact HIr1
    iexact Har1
  imod (Rounds.cell_close ER (Rd wc wk wv) (Set.mem_univ (K (c, 6))) (fun h => h) (R := 1) (duties_later wc wk wv (dmaC c rv2))) $$ [Har2] with Zr2
  · isplitr; · iexact HIr2
    iexact Har2
  have e96 : stageA.sl.v96 c x = k0_pay2 x := xb_read x
  have b0 : stageA.sl.v97 c wq f10 = wBlk wq 0 := by
    unfold stageA.sl.v97
    refine (slot_other _ _ 0 1 rfl rfl (by decide) _ _ _ _).trans ((slot_same _ _ _ _ _).trans ?_)
    exact wqCopy 0 (by decide) _ rfl _ wq
  have b1 : stageA.sl.v118 c wq f10 = wBlk wq 1 := by
    unfold stageA.sl.v118
    refine (slot_other _ _ 1 0 rfl rfl (by decide) _ _ _ _).trans ((slot_same _ _ _ _ _).trans ?_)
    exact wqCopy 1 (by decide) _ rfl _ wq
  have b2 : stageA.sl.v139 c wq f10 = wBlk wq 2 := by
    unfold stageA.sl.v139
    refine (slot_other _ _ 0 1 rfl rfl (by decide) _ _ _ _).trans ((slot_same _ _ _ _ _).trans ?_)
    exact wqCopy 2 (by decide) _ rfl _ wq
  have b3 : stageA.sl.v155 c wq f10 = wBlk wq 3 := by
    unfold stageA.sl.v155
    refine (slot_same _ _ _ _ _).trans ?_
    exact wqCopy 3 (by decide) _ rfl _ wq
  have q4 := (qF_writes f4 (stageA.sl.v96 c x) wq _ _ _ _ b0 b1 b2 b3).trans (congrArg (fun z => qF z wq) e96)
  have q5 := (qrF_writes f5 (stageA.sl.v96 c x) (View.readAt (Elt F) (Memref.whole cc0_stg4_0).view (Rect.unit (s := S2048x512) ![0, 0] S2048x512.size inb_S2048x512_S2048x512_0_0).toLoadRect wqr)).trans
    (congrArg₂ qrF e96 (Memref.readAt_unit_zero (Elt F) cc0_stg4_0 zero2 inb_S2048x512_S2048x512_0_0 wqr))
  have q6 := (krF_writes f6 (stageA.sl.v96 c x) (View.readAt (Elt F) (Memref.whole cc0_stg5_0).view (Rect.unit (s := S2048x32) ![0, 0] S2048x32.size inb_S2048x32_S2048x32_0_0).toLoadRect wkr)).trans
    (congrArg₂ krF e96 (Memref.readAt_unit_zero (Elt F) cc0_stg5_0 zero2 inb_S2048x32_S2048x32_0_0 wkr))
  have q7 := (whole_store7 f7 _).trans (congrArg₂ k0_pay52 (Memref.readAt_unit_zero (Elt F) cc0_scratch1 zero2 inb_S1024x256_S1024x256_0_0 (stackC wc c)) (Memref.readAt_unit_zero (Elt F) cc0_scratch2 zero2 inb_S256x2048_S256x2048_0_0 (stackU wk c)))
  have q8 := (whole_store8 f8 _).trans (congrArg₂ k0_pay53 (Memref.readAt_unit_zero (Elt F) cc0_scratch1 zero2 inb_S1024x256_S1024x256_0_0 (stackC wc c)) (Memref.readAt_unit_zero (Elt F) cc0_scratch3 zero2 inb_S256x2048_S256x2048_0_0 (stackU wv c)))
  imodintro
  iapply HK
  unfold afterA
  isplitl [HO]; · iexists _; iexact HO
  isplitl [Zb]; · iexact Zb
  isplitl [Zs0 Zs1 Zs2 Zr0 Zr1 Zr2 Hz0 Hz1]
  · unfold freeSems
    isplitl [Zs0]; · iexact Zs0
    isplitl [Zs1]; · iexact Zs1
    isplitl [Zs2]; · iexact Zs2
    isplitl [Zr0]; · iexact Zr0
    isplitl [Zr1]; · iexact Zr1
    isplitl [Zr2]; · iexact Zr2
    isplitl [Hz0]; · iexact Hz0
    iexact Hz1
  unfold held
  isplitl [Hx]; · iexact Hx
  isplitl [Hwd]; · iexact Hwd
  isplitl [Hwk]; · iexact Hwk
  isplitl [Hwv]; · iexact Hwv
  isplitl [Hwq]; · iexact Hwq
  isplitl [Hwqr]; · iexact Hwqr
  isplitl [Hwkr]; · iexact Hwkr
  isplitl [H0]; · iexists _; iexact H0
  isplitl [H1]; · iexists _; iexact H1
  isplitl [H2]; · iexists _; iexact H2
  isplitl [H3]; · iexists _; iexact H3
  isplitl [H4]; · rw [← q4]; iexact H4
  isplitl [H5]; · rw [← q5]; iexact H5
  isplitl [H6]; · rw [← q6]; iexact H6
  isplitl [H7]; · rw [← q7]; iexact H7
  isplitl [H8]; · rw [← q8]; iexact H8
  iexists _; iexact H10
end Cert.KernelIdeal.Mla
-- ==== Proof.FormsB.lean ====
module

public import proofs.«01_k».proof.Proof.Forms
public import Idealize.ShloMosaic.Lib.Pipeline.Value
public import Idealize.ShloMosaic.Lib.ValueLayout
public import Idealize.ShloMosaic.Lib.Ring
public import Idealize.ShloMosaic.Lib.VecWindow

@[expose] public section

noncomputable section

namespace Cert.KernelIdeal.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- A 512×128 block of a 1024×2048 buffer. -/
def blkS (m : Vec F S1024x2048 .bf16) (b h : ℕ) : Vec F S512x128 .bf16 := fun i =>
  m (ix2 ((512 * b + (i 0).val) % 1024) ((128 * h + (i 1).val) % 2048) (Nat.mod_lt _ (by decide)) (Nat.mod_lt _ (by decide)))
/-- One plane of the rotary queries. -/
def planeQ (m : Vec F S32x512x32 .bf16) (n : ℕ) : Vec F S1x512x32 .bf16 := fun i =>
  m (ix3 (n % 32) (i 1).val (i 2).val (Nat.mod_lt _ (by decide)) (i 1).isLt (i 2).isLt)
/-- One plane of the rotary keys. -/
def planeK (m : Vec F S2x512x32 .bf16) (n : ℕ) : Vec F S1x512x32 .bf16 := fun i =>
  m (ix3 (n % 2) (i 1).val (i 2).val (Nat.mod_lt _ (by decide)) (i 1).isLt (i 2).isLt)
/-- The 512 rows of batch `b`. -/
def rowsS (m : Vec F S1024x2048 .bf16) (b : ℕ) : Vec F S512x2048 .bf16 := fun i =>
  m (ix2 ((512 * b + (i 0).val) % 1024) (i 1).val (Nat.mod_lt _ (by decide)) (i 1).isLt)

/-- The attention of head `h` in batch `b`. -/
def headV (fq fk fv : Vec F S1024x2048 .bf16) (fqr : Vec F S32x512x32 .bf16) (fkr : Vec F S2x512x32 .bf16) (b h : ℕ) : Vec F S512x128 .bf16 :=
  k0_pay54 (blkS fq b h) (blkS fk b h) (blkS fv b h) (planeQ fqr (16 * b + h)) (planeK fkr b)

/-- All heads of all batches, side by side. -/
def oF (fq fk fv : Vec F S1024x2048 .bf16) (fqr : Vec F S32x512x32 .bf16) (fkr : Vec F S2x512x32 .bf16) : Vec F S1024x2048 .bf16 := fun i =>
  headV fq fk fv fqr fkr ((i 0).val / 512) ((i 1).val / 128)
    (ix2 ((i 0).val % 512) ((i 1).val % 128) (Nat.mod_lt _ (by decide)) (Nat.mod_lt _ (by decide)))

/-- The projected result. -/
def outF (fo : Vec F S1024x2048 .bf16) (fw : Vec F S2048x2048 .f32) : Vec F S2x512x2048 .bf16 := fun i =>
  k0_pay113 (wBlk fw ((i 2).val / 512)) (rowsS fo (i 0).val) (ix3 0 (i 1).val ((i 2).val % 512) (by decide) (i 1).isLt (Nat.mod_lt _ (by decide)))

theorem blk_at (m : Vec F S1024x2048 .bf16) (b h : ℕ) (hb : b < 2) (hh : h < 16) (off : Fin 2 → ℕ) (ho : off = ![512 * b, 128 * h])
    (inb : ∀ a, off a + S512x128.size a ≤ S1024x2048.size a) :
    (fun x => m ((Rect.unit (s := S1024x2048) off S512x128.size inb).toLoadRect.idx x)) = blkS m b h := by
  subst ho
  funext x
  have h0 : (x 0).val < 512 := (x 0).isLt
  have h1 : (x 1).val < 128 := (x 1).isLt
  exact congrArg m (ix2_eta _ _ _ _ _ (by show 512 * b + 1 * (x 0).val = _; omega) (by show 128 * h + 1 * (x 1).val = _; omega))
theorem planeQ_at (m : Vec F S32x512x32 .bf16) (n : ℕ) (hn : n < 32) (off : Fin 3 → ℕ) (ho : off = ![n, 0, 0])
    (inb : ∀ a, off a + S1x512x32.size a ≤ S32x512x32.size a) :
    (fun x => m ((Rect.unit (s := S32x512x32) off S1x512x32.size inb).toLoadRect.idx x)) = planeQ m n := by
  subst ho
  funext x
  have h0 : (x 0).val < 1 := (x 0).isLt
  exact congrArg m (ix3_eta _ _ _ _ _ _ _ (by show n + 1 * (x 0).val = _; omega) (by show 0 + 1 * (x 1).val = _; omega) (by show 0 + 1 * (x 2).val = _; omega))
theorem planeK_at (m : Vec F S2x512x32 .bf16) (n : ℕ) (hn : n < 2) (off : Fin 3 → ℕ) (ho : off = ![n, 0, 0])
    (inb : ∀ a, off a + S1x512x32.size a ≤ S2x512x32.size a) :
    (fun x => m ((Rect.unit (s := S2x512x32) off S1x512x32.size inb).toLoadRect.idx x)) = planeK m n := by
  subst ho
  funext x
  have h0 : (x 0).val < 1 := (x 0).isLt
  exact congrArg m (ix3_eta _ _ _ _ _ _ _ (by show n + 1 * (x 0).val = _; omega) (by show 0 + 1 * (x 1).val = _; omega) (by show 0 + 1 * (x 2).val = _; omega))
theorem rows_at (m : Vec F S1024x2048 .bf16) (b : ℕ) (hb : b < 2) (off : Fin 2 → ℕ) (ho : off = ![512 * b, 0])
    (inb : ∀ a, off a + S512x2048.size a ≤ S1024x2048.size a) :
    (fun x => m ((Rect.unit (s := S1024x2048) off S512x2048.size inb).toLoadRect.idx x)) = rowsS m b := by
  subst ho
  funext x
  have h0 : (x 0).val < 512 := (x 0).isLt
  exact congrArg m (ix2_eta _ _ _ _ _ (by show 512 * b + 1 * (x 0).val = _; omega) (by show 0 + 1 * (x 1).val = _; omega))

theorem headPiece (fq fk fv : Vec F S1024x2048 .bf16) (fqr : Vec F S32x512x32 .bf16) (fkr : Vec F S2x512x32 .bf16) (b h : ℕ) (hb : b < 2) (hh : h < 16)
    (off : Fin 2 → ℕ) (ho : off = ![512 * b, 128 * h]) (inb : ∀ a, off a + S512x128.size a ≤ S1024x2048.size a)
    (offq : Fin 3 → ℕ) (hoq : offq = ![16 * b + h, 0, 0]) (inbq : ∀ a, offq a + S1x512x32.size a ≤ S32x512x32.size a)
    (offk : Fin 3 → ℕ) (hok : offk = ![b, 0, 0]) (inbk : ∀ a, offk a + S1x512x32.size a ≤ S2x512x32.size a) (g : Vec F S512x128 .bf16)
    (hg : g = k0_pay54 (View.readAt (Elt F) (Memref.whole cc0_scratch4).view (Rect.unit (s := S1024x2048) off S512x128.size inb).toLoadRect fq)
      (View.readAt (Elt F) (Memref.whole cc0_scratch7).view (Rect.unit (s := S1024x2048) off S512x128.size inb).toLoadRect fk)
      (View.readAt (Elt F) (Memref.whole cc0_scratch8).view (Rect.unit (s := S1024x2048) off S512x128.size inb).toLoadRect fv)
      (View.readAt (Elt F) (Memref.whole cc0_scratch5).view (Rect.unit (s := S32x512x32) offq S1x512x32.size inbq).toLoadRect fqr)
      (View.readAt (Elt F) (Memref.whole cc0_scratch6).view (Rect.unit (s := S2x512x32) offk S1x512x32.size inbk).toLoadRect fkr))
    (x : S512x128.Idx) : g x = oF fq fk fv fqr fkr ((Rect.unit (s := S1024x2048) off S512x128.size inb).emb x) := by
  have e : g = headV fq fk fv fqr fkr b h := by
    rw [hg]
    refine (congr (congr (congr (congr (congrArg k0_pay54 (blk_at fq b h hb hh off ho inb)) (blk_at fk b h hb hh off ho inb))
      (blk_at fv b h hb hh off ho inb)) (planeQ_at fqr (16 * b + h) (by omega) offq hoq inbq)) (planeK_at fkr b hb offk hok inbk))
  rw [e]
  subst ho
  have h0 : (x 0).val < 512 := (x 0).isLt
  have h1 : (x 1).val < 128 := (x 1).isLt
  have e0 : (((Rect.unit (s := S1024x2048) ![512 * b, 128 * h] S512x128.size inb).emb x) 0).val = 512 * b + (x 0).val := by
    show 512 * b + 1 * (x 0).val = _; omega
  have e1 : (((Rect.unit (s := S1024x2048) ![512 * b, 128 * h] S512x128.size inb).emb x) 1).val = 128 * h + (x 1).val := by
    show 128 * h + 1 * (x 1).val = _; omega
  generalize (Rect.unit (s := S1024x2048) ![512 * b, 128 * h] S512x128.size inb).emb x = y at e0 e1
  unfold oF
  have hd : (y 0).val / 512 = b := by omega
  have hd' : (y 1).val / 128 = h := by omega
  rw [hd, hd']
  exact congrArg (headV fq fk fv fqr fkr b h) (ix2_eta x _ _ _ _ (by omega) (by omega))

theorem outPiece (fo : Vec F S1024x2048 .bf16) (fw : Vec F S2048x2048 .f32) (b n : ℕ) (hb : b < 2) (hn : n < 4)
    (off : Fin 3 → ℕ) (ho : off = ![b, 0, 512 * n]) (inb : ∀ a, off a + S1x512x512.size a ≤ S2x512x2048.size a)
    (g : Vec F S1x512x512 .bf16) (hg : g = k0_pay113 (wBlk fw n) (rowsS fo b)) (x : S1x512x512.Idx) :
    g x = outF fo fw ((Rect.unit (s := S2x512x2048) off S1x512x512.size inb).emb x) := by
  rw [hg]
  subst ho
  have h0 : (x 0).val < 1 := (x 0).isLt
  have h2 : (x 2).val < 512 := (x 2).isLt
  have e0 : (((Rect.unit (s := S2x512x2048) ![b, 0, 512 * n] S1x512x512.size inb).emb x) 0).val = b := by
    show b + 1 * (x 0).val = _; omega
  have e1 : (((Rect.unit (s := S2x512x2048) ![b, 0, 512 * n] S1x512x512.size inb).emb x) 1).val = (x 1).val := by
    show 0 + 1 * (x 1).val = _; omega
  have e2 : (((Rect.unit (s := S2x512x2048) ![b, 0, 512 * n] S1x512x512.size inb).emb x) 2).val = 512 * n + (x 2).val := by
    show 512 * n + 1 * (x 2).val = _; omega
  generalize (Rect.unit (s := S2x512x2048) ![b, 0, 512 * n] S1x512x512.size inb).emb x = y at e0 e1 e2
  unfold outF
  have hd : (y 2).val / 512 = n := by omega
  rw [hd, e0]
  exact congrArg (k0_pay113 (wBlk fw n) (rowsS fo b)) (ix3_eta x _ _ _ _ _ _ (by omega) (by omega) (by omega))

theorem rowsRead (G : Vec F S1024x2048 .bf16) (L : List (View.Piece (Elt F) S1024x2048 .bf16))
    (hL : ∀ f, (Memref.whole cc0_scratch9).view.writes (Elt F) f L = G) (b : ℕ) (hb : b < 2) (off : Fin 2 → ℕ) (ho : off = ![512 * b, 0])
    (inb : ∀ a, off a + S512x2048.size a ≤ S1024x2048.size a) :
    (Memref.whole cc0_scratch9).view.readCov L (Rect.unit (s := S1024x2048) off S512x2048.size inb).toLoadRect = rowsS G b :=
  (congrArg (View.readAt (Elt F) (Memref.whole cc0_scratch9).view (Rect.unit (s := S1024x2048) off S512x2048.size inb).toLoadRect) (hL _)).trans
    (rows_at G b hb off ho inb)

theorem outF_writes (f : Vec F S2x512x2048 .bf16) (fo : Vec F S1024x2048 .bf16) (fw : Vec F S2048x2048 .f32) (b0 b1 b2 b3 : Vec F S1x2048x512 .f32)
    (r0 r1 : Vec F S512x2048 .bf16) (h0 : b0 = wBlk fw 0) (h1 : b1 = wBlk fw 1) (h2 : b2 = wBlk fw 2) (h3 : b3 = wBlk fw 3)
    (hr0 : r0 = rowsS fo 0) (hr1 : r1 = rowsS fo 1) :
    (Memref.whole cc0_stg6_0).view.writes (Elt F) f
      [⟨Rect.unit (s := S2x512x2048) ![1, 0, 1536] S1x512x512.size inb_S2x512x2048_S1x512x512_1_0_1536, k0_pay1 (k0_pay123 (k0_pay121 b3) r1)⟩,
        ⟨Rect.unit (s := S2x512x2048) ![0, 0, 1536] S1x512x512.size inb_S2x512x2048_S1x512x512_0_0_1536, k0_pay122 (k0_pay121 b3) r0⟩,
        ⟨Rect.unit (s := S2x512x2048) ![1, 0, 1024] S1x512x512.size inb_S2x512x2048_S1x512x512_1_0_1024, k0_pay120 b2 r1⟩,
        ⟨Rect.unit (s := S2x512x2048) ![0, 0, 1024] S1x512x512.size inb_S2x512x2048_S1x512x512_0_0_1024, k0_pay119 b2 r0⟩,
        ⟨Rect.unit (s := S2x512x2048) ![1, 0, 512] S1x512x512.size inb_S2x512x2048_S1x512x512_1_0_512, k0_pay117 b1 r1⟩,
        ⟨Rect.unit (s := S2x512x2048) ![0, 0, 512] S1x512x512.size inb_S2x512x2048_S1x512x512_0_0_512, k0_pay116 b1 r0⟩,
        ⟨Rect.unit (s := S2x512x2048) ![1, 0, 0] S1x512x512.size inb_S2x512x2048_S1x512x512_1_0_0, k0_pay114 b0 r1⟩,
        ⟨Rect.unit (s := S2x512x2048) ![0, 0, 0] S1x512x512.size inb_S2x512x2048_S1x512x512_0_0_0, k0_pay113 b0 r0⟩] = outF fo fw := by
  subst h0 h1 h2 h3 hr0 hr1
  refine (View.read_whole cc0_stg6_0 _).symm.trans (pieces_eq (Memref.whole cc0_stg6_0).view f (outF fo fw) _ ?_ ?_)
  rotate_left
  · exact View.cover_of_tiledL (s := S2x512x2048) _ S1x512x512.size rfl
  simp only [List.forall_mem_cons]
  refine ⟨outPiece fo fw 1 3 (by decide) (by decide) _ rfl _ _ rfl, outPiece fo fw 0 3 (by decide) (by decide) _ rfl _ _ rfl,
    outPiece fo fw 1 2 (by decide) (by decide) _ rfl _ _ rfl, outPiece fo fw 0 2 (by decide) (by decide) _ rfl _ _ rfl,
    outPiece fo fw 1 1 (by decide) (by decide) _ rfl _ _ rfl, outPiece fo fw 0 1 (by decide) (by decide) _ rfl _ _ rfl,
    outPiece fo fw 1 0 (by decide) (by decide) _ rfl _ _ rfl, outPiece fo fw 0 0 (by decide) (by decide) _ rfl _ _ rfl, ?_⟩
  intro p hp; exact absurd hp List.not_mem_nil
end Cert.KernelIdeal.Mla
-- ==== Proof.StageB.lean ====
module

public import proofs.«01_k».proof.Proof.Rules
public import proofs.«01_k».proof.Proof.FormsB

@[expose] public section

noncomputable section

namespace Cert.KernelIdeal.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- What the second stage leaves. -/
def afterB (c : Dev nD) (fq fk fv : Buf (Elt F) ((c : Thread nD τ).loc cc0_scratch4)) (fqr : Buf (Elt F) ((c : Thread nD τ).loc cc0_scratch5))
    (fkr : Buf (Elt F) ((c : Thread nD τ).loc cc0_scratch6)) (fw : Buf (Elt F) ((c : Thread nD τ).loc main_arg7)) : sProp 𝕄 :=
  iprop((∃ W, owes (c : Thread nD τ) 0 W) ∗ semVal (dmaC c ⟨13, by decide⟩) 0 ∗ semVal (dmaC c ⟨14, by decide⟩) 0
    ∗ held c main_arg7 fullShare fw ∗ held c cc0_scratch4 fullShare fq ∗ held c cc0_scratch5 fullShare fqr ∗ held c cc0_scratch6 fullShare fkr
    ∗ held c cc0_scratch7 fullShare fk ∗ held c cc0_scratch8 fullShare fv
    ∗ (∃ f, held c cc0_scratch9 fullShare f) ∗ (∃ f, held c cc0_scratch10 fullShare f)
    ∗ held c cc0_stg6_0 fullShare (outF (oF fq fk fv fqr fkr) fw))

set_option sl_exec.squeezeSlice true in
set_option sl_exec.dmaWindow true in
set_option maxRecDepth 65536 in
set_option maxHeartbeats 800000 in
theorem stageB (c : Dev nD) (W : Waits sig Unit) (Kt : PUnit → sProp 𝕄)
    (fq fk fv fo : Buf (Elt F) ((c : Thread nD τ).loc cc0_scratch4)) (fqr : Buf (Elt F) ((c : Thread nD τ).loc cc0_scratch5))
    (fkr : Buf (Elt F) ((c : Thread nD τ).loc cc0_scratch6)) (fw : Buf (Elt F) ((c : Thread nD τ).loc main_arg7))
    (fb : Buf (Elt F) ((c : Thread nD τ).loc cc0_scratch10)) (fout : Buf (Elt F) ((c : Thread nD τ).loc cc0_stg6_0)) :
    iprop(owes (c : Thread nD τ) 0 W ∗ semVal (dmaC c ⟨13, by decide⟩) 0 ∗ semVal (dmaC c ⟨14, by decide⟩) 0
      ∗ held c main_arg7 fullShare fw ∗ held c cc0_scratch4 fullShare fq
      ∗ held c cc0_scratch5 fullShare fqr ∗ held c cc0_scratch6 fullShare fkr
      ∗ held c cc0_scratch7 fullShare fk ∗ held c cc0_scratch8 fullShare fv
      ∗ held c cc0_scratch9 fullShare fo ∗ held c cc0_scratch10 fullShare fb
      ∗ held c cc0_stg6_0 fullShare fout ∗ (afterB c fq fk fv fqr fkr fw -∗ Kt ⟨⟩))
      ⊢ wp frame (wpE (defs₀ (F := F)) 𝒱₀ c none) Set.univ restB Kt := by
  unfold restB
  unfold held
  iintro ⟨HO, Hs0, Hs1, Hw, Hq, Hqr, Hkr, Hk, Hv, Ho, Hb, Hout, HK⟩
  sl_exec
  have eo : ∀ f, (Memref.whole cc0_scratch9).view.writes (Elt F) f (stageB.sl.Ho_32 c fq fk fv fqr fkr) = oF fq fk fv fqr fkr := by
    intro f
    unfold stageB.sl.Ho_32
    refine (View.read_whole cc0_scratch9 _).symm.trans (pieces_eq (Memref.whole cc0_scratch9).view f (oF fq fk fv fqr fkr) _ ?_ ?_)
    rotate_left
    · exact View.cover_of_tiledL (s := S1024x2048) _ S512x128.size rfl
    simp only [List.forall_mem_cons]
    refine ⟨headPiece fq fk fv fqr fkr 1 15 (by decide) (by decide) _ rfl _ _ rfl _ _ rfl _ _ rfl,
      headPiece fq fk fv fqr fkr 1 14 (by decide) (by decide) _ rfl _ _ rfl _ _ rfl _ _ rfl,
      headPiece fq fk fv fqr fkr 1 13 (by decide) (by decide) _ rfl _ _ rfl _ _ rfl _ _ rfl,
      headPiece fq fk fv fqr fkr 1 12 (by decide) (by decide) _ rfl _ _ rfl _ _ rfl _ _ rfl,
      headPiece fq fk fv fqr fkr 1 11 (by decide) (by decide) _ rfl _ _ rfl _ _ rfl _ _ rfl,
      headPiece fq fk fv fqr fkr 1 10 (by decide) (by decide) _ rfl _ _ rfl _ _ rfl _ _ rfl,
      headPiece fq fk fv fqr fkr 1 9 (by decide) (by decide) _ rfl _ _ rfl _ _ rfl _ _ rfl,
      headPiece fq fk fv fqr fkr 1 8 (by decide) (by decide) _ rfl _ _ rfl _ _ rfl _ _ rfl,
      headPiece fq fk fv fqr fkr 1 7 (by decide) (by decide) _ rfl _ _ rfl _ _ rfl _ _ rfl,
      headPiece fq fk fv fqr fkr 1 6 (by decide) (by decide) _ rfl _ _ rfl _ _ rfl _ _ rfl,
      headPiece fq fk fv fqr fkr 1 5 (by decide) (by decide) _ rfl _ _ rfl _ _ rfl _ _ rfl,
      headPiece fq fk fv fqr fkr 1 4 (by decide) (by decide) _ rfl _ _ rfl _ _ rfl _ _ rfl,
      headPiece fq fk fv fqr fkr 1 3 (by decide) (by decide) _ rfl _ _ rfl _ _ rfl _ _ rfl,
      headPiece fq fk fv fqr fkr 1 2 (by decide) (by decide) _ rfl _ _ rfl _ _ rfl _ _ rfl,
      headPiece fq fk fv fqr fkr 1 1 (by decide) (by decide) _ rfl _ _ rfl _ _ rfl _ _ rfl,
      headPiece fq fk fv fqr fkr 1 0 (by decide) (by decide) _ rfl _ _ rfl _ _ rfl _ _ rfl,
      headPiece fq fk fv fqr fkr 0 15 (by decide) (by decide) _ rfl _ _ rfl _ _ rfl _ _ rfl,
      headPiece fq fk fv fqr fkr 0 14 (by decide) (by decide) _ rfl _ _ rfl _ _ rfl _ _ rfl,
      headPiece fq fk fv fqr fkr 0 13 (by decide) (by decide) _ rfl _ _ rfl _ _ rfl _ _ rfl,
      headPiece fq fk fv fqr fkr 0 12 (by decide) (by decide) _ rfl _ _ rfl _ _ rfl _ _ rfl,
      headPiece fq fk fv fqr fkr 0 11 (by decide) (by decide) _ rfl _ _ rfl _ _ rfl _ _ rfl,
      headPiece fq fk fv fqr fkr 0 10 (by decide) (by decide) _ rfl _ _ rfl _ _ rfl _ _ rfl,
      headPiece fq fk fv fqr fkr 0 9 (by decide) (by decide) _ rfl _ _ rfl _ _ rfl _ _ rfl,
      headPiece fq fk fv fqr fkr 0 8 (by decide) (by decide) _ rfl _ _ rfl _ _ rfl _ _ rfl,
      headPiece fq fk fv fqr fkr 0 7 (by decide) (by decide) _ rfl _ _ rfl _ _ rfl _ _ rfl,
      headPiece fq fk fv fqr fkr 0 6 (by decide) (by decide) _ rfl _ _ rfl _ _ rfl _ _ rfl,
      headPiece fq fk fv fqr fkr 0 5 (by decide) (by decide) _ rfl _ _ rfl _ _ rfl _ _ rfl,
      headPiece fq fk fv fqr fkr 0 4 (by decide) (by decide) _ rfl _ _ rfl _ _ rfl _ _ rfl,
      headPiece fq fk fv fqr fkr 0 3 (by decide) (by decide) _ rfl _ _ rfl _ _ rfl _ _ rfl,
      headPiece fq fk fv fqr fkr 0 2 (by decide) (by decide) _ rfl _ _ rfl _ _ rfl _ _ rfl,
      headPiece fq fk fv fqr fkr 0 1 (by decide) (by decide) _ rfl _ _ rfl _ _ rfl _ _ rfl,
      headPiece fq fk fv fqr fkr 0 0 (by decide) (by decide) _ rfl _ _ rfl _ _ rfl _ _ rfl, ?_⟩
    intro p hp; exact absurd hp List.not_mem_nil
  have b0 : stageB.sl.v1182 c fw fb = wBlk fw 0 := by
    unfold stageB.sl.v1182
    refine (slot_other _ _ 0 1 rfl rfl (by decide) _ _ _ _).trans ((slot_same _ _ _ _ _).trans ?_)
    exact woCopy 0 (by decide) _ rfl _ fw
  have b1 : stageB.sl.v1207 c fw fb = wBlk fw 1 := by
    unfold stageB.sl.v1207
    refine (slot_other _ _ 1 0 rfl rfl (by decide) _ _ _ _).trans ((slot_same _ _ _ _ _).trans ?_)
    exact woCopy 1 (by decide) _ rfl _ fw
  have b2 : stageB.sl.v1232 c fw fb = wBlk fw 2 := by
    unfold stageB.sl.v1232
    refine (slot_other _ _ 0 1 rfl rfl (by decide) _ _ _ _).trans ((slot_same _ _ _ _ _).trans ?_)
    exact woCopy 2 (by decide) _ rfl _ fw
  have b3 : stageB.sl.v1252 c fw fb = wBlk fw 3 := by
    unfold stageB.sl.v1252
    refine (slot_same _ _ _ _ _).trans ?_
    exact woCopy 3 (by decide) _ rfl _ fw
  have r0 : stageB.sl.v1190 c fq fk fv fqr fkr = rowsS (oF fq fk fv fqr fkr) 0 := rowsRead _ _ eo 0 (by decide) _ rfl _
  have r1 : stageB.sl.v1196 c fq fk fv fqr fkr = rowsS (oF fq fk fv fqr fkr) 1 := rowsRead _ _ eo 1 (by decide) _ rfl _
  have q6 := outF_writes fout (oF fq fk fv fqr fkr) fw _ _ _ _ _ _ b0 b1 b2 b3 r0 r1
  rw [wp_ret]; imodintro
  iapply HK
  unfold afterB held
  isplitl [HO]
  · iexists _; iexact HO
  isplitl [Hs0]
  · iexact Hs0
  isplitl [Hs1]
  · iexact Hs1
  isplitl [Hw]
  · iexact Hw
  isplitl [Hq]
  · iexact Hq
  isplitl [Hqr]
  · iexact Hqr
  isplitl [Hkr]
  · iexact Hkr
  isplitl [Hk]
  · iexact Hk
  isplitl [Hv]
  · iexact Hv
  isplitl [Ho]
  · iexists _; iexact Ho
  isplitl [Hb]
  · iexists _; iexact Hb
  rw [← q6]
  iexact Hout
end Cert.KernelIdeal.Mla
-- ==== Proof.Body.lean ====
module

public import proofs.«01_k».proof.Proof.StageA
public import proofs.«01_k».proof.Proof.StageB
public import proofs.«01_k».proof.Proof.Gen.KernelIdeal.Launch
public import proofs.«01_k».proof.Proof.Gen.KernelIdeal.Points
public import Idealize.ShloMosaic.Lib.Pipeline.ValueKit
public import Idealize.ShloMosaic.Lib.Pipeline.CollectiveSegs

@[expose] public section

noncomputable section

namespace Cert.KernelIdeal.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The contents -/

def xA (c : Dev nD) : Vec F S2x512x2048 .f32 := m ((c : Thread nD τ).loc main_arg0)
def wdA (c : Dev nD) : Vec F S2048x128 .f32 := m ((c : Thread nD τ).loc main_arg1)
def wkA (c : Dev nD) : Vec F S128x2048 .bf16 := m ((c : Thread nD τ).loc main_arg2)
def wvA (c : Dev nD) : Vec F S128x2048 .bf16 := m ((c : Thread nD τ).loc main_arg3)
def wqA (c : Dev nD) : Vec F S2048x2048 .f32 := m ((c : Thread nD τ).loc main_arg4)
def wqrA (c : Dev nD) : Vec F S2048x512 .f32 := m ((c : Thread nD τ).loc main_arg5)
def wkrA (c : Dev nD) : Vec F S2048x32 .f32 := m ((c : Thread nD τ).loc main_arg6)
def woA (c : Dev nD) : Vec F S2048x2048 .f32 := m ((c : Thread nD τ).loc main_arg7)
/-- The latent block a device computes and sends. -/
def wcA (c : Dev nD) : Vec F S1024x128 .bf16 := k0_pay3 (k0_pay2 (xA m c)) (wdA m c)
/-- The result of a device, in closed form. -/
def outA (c : Dev nD) : Vec F S2x512x2048 .bf16 :=
  outF (oF (qF (k0_pay2 (xA m c)) (wqA m c)) (k0_pay52 (stackC (wcA m) c) (stackU (wkA m) c)) (k0_pay53 (stackC (wcA m) c) (stackU (wvA m) c))
    (qrF (k0_pay2 (xA m c)) (wqrA m c)) (krF (k0_pay2 (xA m c)) (wkrA m c))) (woA m c)

abbrev Rm : Rounds.Schedule (GSem nD τ sig) Unit 𝕄 := Rd (wcA m) (wkA m) (wvA m)

def startM : MemSt nD τ sig (Elt F) := ⟨m, fun _ => 0, ρ⟩

/-! ## The pipeline's data -/

/-- The two arrays the body copies from itself. -/
def arrs (c : Dev nD) : sProp 𝕄 := iprop(held c main_arg4 fullShare (m ((c : Thread nD τ).loc main_arg4)) ∗ held c main_arg7 fullShare (m ((c : Thread nD τ).loc main_arg7)))
def spare (c : Dev nD) : sProp 𝕄 := iprop(semVal (dmaC c ⟨13, by decide⟩) 0 ∗ semVal (dmaC c ⟨14, by decide⟩) 0)

def start (c : Dev nD) : sProp 𝕄 := iprop((∃ K, startG (wcA m) (wkA m) (wvA m) K c) ∗ spare c ∗ arrs m c)

def scr (c : Dev nD) : sProp 𝕄 :=
  iprop((∃ f, held c cc0_scratch0 fullShare f) ∗ (∃ f, held c cc0_scratch1 fullShare f) ∗ (∃ f, held c cc0_scratch2 fullShare f)
    ∗ (∃ f, held c cc0_scratch3 fullShare f) ∗ (∃ f, held c cc0_scratch4 fullShare f) ∗ (∃ f, held c cc0_scratch5 fullShare f)
    ∗ (∃ f, held c cc0_scratch6 fullShare f) ∗ (∃ f, held c cc0_scratch7 fullShare f) ∗ (∃ f, held c cc0_scratch8 fullShare f)
    ∗ (∃ f, held c cc0_scratch9 fullShare f) ∗ (∃ f, held c cc0_scratch10 fullShare f))

theorem scr_eq (c : Dev nD) : (Pipeline.scopedRest (Ix := Unit) (Name := ℕ) (U := UU) (Lvl := ℕ) (Val := Elt F) spec0 c : sProp 𝕄) = scr c :=
  scopedRest0_eq c

def Φ₀ (c : Dev nD) : sProp 𝕄 := iprop(start m c ∗ scr c)
def Φ₁ (c : Dev nD) : sProp 𝕄 := iprop(scr c ∗ semVal (barC c) 0 ∗ freeSems c ∗ arrs m c)

def dats (_ : Fin 1) (c : Dev nD) : Dat τ (Elt F) Unit ℕ UU ℕ cfg0 c where
  A w := m ((cfg0.win w).arr.view.loc (c : Thread nD τ))
  after w _ := match w with
    | ⟨0, _⟩ => xA m c
    | ⟨1, _⟩ => wdA m c
    | ⟨2, _⟩ => wkA m c
    | ⟨3, _⟩ => wvA m c
    | ⟨4, _⟩ => wqrA m c
    | ⟨5, _⟩ => wkrA m c
    | ⟨6, _⟩ => outA m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem before_0 (c : Dev nD) (d) : (dats m 0 c).before (0 : Fin 7) t0_0 d = xA m c := by
  unfold Dat.before; rw [if_pos (fetch0_0 t0_0)]
  exact (show _ = (win0_0.blk t0_0).view.read (Elt F) (xA m c) from rfl).trans (Memref.read_access_unit_zero (Elt F) main_arg0 (funext fun a => Nat.zero_mul _) _ _)
theorem before_1 (c : Dev nD) (d) : (dats m 0 c).before (1 : Fin 7) t0_0 d = wdA m c := by
  unfold Dat.before; rw [if_pos (fetch0_1 t0_0)]
  exact (show _ = (win0_1.blk t0_0).view.read (Elt F) (wdA m c) from rfl).trans (Memref.read_access_unit_zero (Elt F) main_arg1 (funext fun a => Nat.zero_mul _) _ _)
theorem before_2 (c : Dev nD) (d) : (dats m 0 c).before (2 : Fin 7) t0_0 d = wkA m c := by
  unfold Dat.before; rw [if_pos (fetch0_2 t0_0)]
  exact (show _ = (win0_2.blk t0_0).view.read (Elt F) (wkA m c) from rfl).trans (Memref.read_access_unit_zero (Elt F) main_arg2 (funext fun a => Nat.zero_mul _) _ _)
theorem before_3 (c : Dev nD) (d) : (dats m 0 c).before (3 : Fin 7) t0_0 d = wvA m c := by
  unfold Dat.before; rw [if_pos (fetch0_3 t0_0)]
  exact (show _ = (win0_3.blk t0_0).view.read (Elt F) (wvA m c) from rfl).trans (Memref.read_access_unit_zero (Elt F) main_arg3 (funext fun a => Nat.zero_mul _) _ _)
theorem before_4 (c : Dev nD) (d) : (dats m 0 c).before (4 : Fin 7) t0_0 d = wqrA m c := by
  unfold Dat.before; rw [if_pos (fetch0_4 t0_0)]
  exact (show _ = (win0_4.blk t0_0).view.read (Elt F) (wqrA m c) from rfl).trans (Memref.read_access_unit_zero (Elt F) main_arg5 (funext fun a => Nat.zero_mul _) _ _)
theorem before_5 (c : Dev nD) (d) : (dats m 0 c).before (5 : Fin 7) t0_0 d = wkrA m c := by
  unfold Dat.before; rw [if_pos (fetch0_5 t0_0)]
  exact (show _ = (win0_5.blk t0_0).view.read (Elt F) (wkrA m c) from rfl).trans (Memref.read_access_unit_zero (Elt F) main_arg6 (funext fun a => Nat.zero_mul _) _ _)

/-! ## The body -/

theorem whole_owned (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ held c b fullShare f) := by
  unfold owns held; simp only [Memref.view_whole, View.read_whole, View.set_whole]

abbrev stgd (c : Dev nD) (b : Ref sig .tc) (X : b.ty.Contents (Elt F)) : sProp 𝕄 :=
  iprop(∃ f : Buf (Elt F) ((c : Thread nD τ).loc b), ⌜f = X⌝ ∗ held c b fullShare f)

def bodyPost (c : Dev nD) : sProp 𝕄 :=
  iprop(Φ₁ m c ∗ (dats m 0 c).owesAt () t0_0.succ
    ∗ stgd c cc0_stg0_0 (xA m c) ∗ stgd c cc0_stg1_0 (wdA m c) ∗ stgd c cc0_stg2_0 (wkA m c) ∗ stgd c cc0_stg3_0 (wvA m c)
    ∗ stgd c cc0_stg4_0 (wqrA m c) ∗ stgd c cc0_stg5_0 (wkrA m c) ∗ stgd c cc0_stg6_0 (outA m c))

/-- The kernel on one device, from its start to its end: the first stage, then the second. -/
theorem body_run (c : Dev nD) (W : Waits sig Unit) (fout : Buf (Elt F) ((c : Thread nD τ).loc cc0_stg6_0)) (Q : PUnit → sProp 𝕄) :
    iprop(start m c ∗ scr c ∗ owes (c : Thread nD τ) (O₀ c) W
      ∗ held c cc0_stg0_0 fullShare (xA m c) ∗ held c cc0_stg1_0 fullShare (wdA m c) ∗ held c cc0_stg2_0 fullShare (wkA m c : Buf (Elt F) ((c : Thread nD τ).loc cc0_stg2_0))
      ∗ held c cc0_stg3_0 fullShare (wvA m c : Buf (Elt F) ((c : Thread nD τ).loc cc0_stg3_0)) ∗ held c cc0_stg4_0 fullShare (wqrA m c) ∗ held c cc0_stg5_0 fullShare (wkrA m c)
      ∗ held c cc0_stg6_0 fullShare fout ∗ (bodyPost m c -∗ Q ⟨⟩))
      ⊢ wp frame (wpE (defs₀ (F := F)) 𝒱₀ c none) Set.univ bodyP Q := by
  rw [body_split, wp_bind]
  unfold start scr spare arrs
  iintro ⟨⟨⟨%K, HG⟩, ⟨Hz0, Hz1⟩, Hwq, Hwo⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩,
    HO, Hx, Hwd, Hwk, Hwv, Hwqr, Hwkr, Hout, HK⟩
  iapply (stageA (wcA m) (wkA m) (wvA m) K c W _ (xA m c) (wdA m c) (wqA m c) (wqrA m c) (wkrA m c) f0 f1 f2 f3 f4 f5 f6 f7 f8 f10 rfl)
  isplitl [HG]; · iexact HG
  isplitl [HO]; · iexact HO
  isplitl [Hz0]; · iexact Hz0
  isplitl [Hz1]; · iexact Hz1
  isplitl [Hx]; · iexact Hx
  isplitl [Hwd]; · iexact Hwd
  isplitl [Hwk]; · iexact Hwk
  isplitl [Hwv]; · iexact Hwv
  isplitl [Hwq]; · iexact Hwq
  isplitl [Hwqr]; · iexact Hwqr
  isplitl [Hwkr]; · iexact Hwkr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  unfold afterA freeSems
  iintro ⟨⟨%W', HO⟩, Hb, ⟨Hs0, Hs1, Hs2, Hr0, Hr1, Hr2, Hz0, Hz1⟩, Hx, Hwd, Hwk, Hwv, Hwq, Hwqr, Hwkr, ⟨%g0, H0⟩, ⟨%g1, H1⟩, ⟨%g2, H2⟩, ⟨%g3, H3⟩,
    H4, H5, H6, H7, H8, ⟨%g10, H10⟩⟩
  iapply (stageB c W' _ (qF (k0_pay2 (xA m c)) (wqA m c)) (k0_pay52 (stackC (wcA m) c) (stackU (wkA m) c)) (k0_pay53 (stackC (wcA m) c) (stackU (wvA m) c)) f9
    (qrF (k0_pay2 (xA m c)) (wqrA m c)) (krF (k0_pay2 (xA m c)) (wkrA m c)) (woA m c) g10 fout)
  isplitl [HO]; · iexact HO
  isplitl [Hz0]; · iexact Hz0
  isplitl [Hz1]; · iexact Hz1
  isplitl [Hwo]; · iexact Hwo
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hout]; · iexact Hout
  unfold afterB
  iintro ⟨⟨%W'', HO⟩, Hz0, Hz1, Hwo, H4, H5, H6, H7, H8, ⟨%g9, H9⟩, ⟨%h10, H10⟩, Hout⟩
  iapply HK
  unfold bodyPost Φ₁ scr freeSems arrs Dat.owesAt Pipeline.owesWithin
  rw [show (dats m 0 c).owed t0_0.succ = 0 from rfl]
  isplitl [H0 H1 H2 H3 H4 H5 H6 H7 H8 H9 H10 Hb Hs0 Hs1 Hs2 Hr0 Hr1 Hr2 Hz0 Hz1 Hwq Hwo]
  · isplitl [H0 H1 H2 H3 H4 H5 H6 H7 H8 H9 H10]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      iexists _; iexact H10
    isplitl [Hb]; · iexact Hb
    isplitl [Hs0 Hs1 Hs2 Hr0 Hr1 Hr2 Hz0 Hz1]
    · isplitl [Hs0]; · iexact Hs0
      isplitl [Hs1]; · iexact Hs1
      isplitl [Hs2]; · iexact Hs2
      isplitl [Hr0]; · iexact Hr0
      isplitl [Hr1]; · iexact Hr1
      isplitl [Hr2]; · iexact Hr2
      isplitl [Hz0]; · iexact Hz0
      iexact Hz1
    isplitl [Hwq]; · iexact Hwq
    iexact Hwo
  isplitl [HO]
  · iexists W''
    isplitr; · ipureintro; exact fun _ _ => Or.inl trivial
    iexact HO
  isplitl [Hx]; · iexists _; isplitr; · (ipureintro; rfl)
                  iexact Hx
  isplitl [Hwd]; · iexists _; isplitr; · (ipureintro; rfl)
                   iexact Hwd
  isplitl [Hwk]; · iexists _; isplitr; · (ipureintro; rfl)
                   iexact Hwk
  isplitl [Hwv]; · iexists _; isplitr; · (ipureintro; rfl)
                   iexact Hwv
  isplitl [Hwqr]; · iexists _; isplitr; · (ipureintro; rfl)
                    iexact Hwqr
  isplitl [Hwkr]; · iexists _; isplitr; · (ipureintro; rfl)
                    iexact Hwkr
  iexists _; isplitr; · (ipureintro; rfl)
  iexact Hout

def bodyPre (c : Dev nD) : sProp 𝕄 :=
  iprop(Φ₀ m c ∗ (dats m 0 c).owesAt () t0_0.castSucc
    ∗ (∃ d, stgd c cc0_stg0_0 ((dats m 0 c).before (0 : Fin 7) t0_0 d)) ∗ (∃ d, stgd c cc0_stg1_0 ((dats m 0 c).before (1 : Fin 7) t0_0 d))
    ∗ (∃ d, stgd c cc0_stg2_0 ((dats m 0 c).before (2 : Fin 7) t0_0 d)) ∗ (∃ d, stgd c cc0_stg3_0 ((dats m 0 c).before (3 : Fin 7) t0_0 d))
    ∗ (∃ d, stgd c cc0_stg4_0 ((dats m 0 c).before (4 : Fin 7) t0_0 d)) ∗ (∃ d, stgd c cc0_stg5_0 ((dats m 0 c).before (5 : Fin 7) t0_0 d))
    ∗ (∃ d, stgd c cc0_stg6_0 ((dats m 0 c).before (6 : Fin 7) t0_0 d)))

set_option maxRecDepth 16000 in
theorem body_pre (c : Dev nD) : bodyPre m c ⊢ wp frame (wpE (defs₀ (F := F)) 𝒱₀ c none) Set.univ bodyP (fun _ => bodyPost m c) := by
  unfold bodyPre Φ₀ Dat.owesAt Pipeline.owesWithin
  rw [show (dats m 0 c).owed t0_0.castSucc = O₀ c from rfl]
  simp only [before_0, before_1, before_2, before_3, before_4, before_5]
  iintro ⟨⟨Hst, Hscr⟩, ⟨%W, %hW, HO⟩, ⟨%d0, %g0, %e0, Hx⟩, ⟨%d1, %g1, %e1, Hwd⟩, ⟨%d2, %g2, %e2, Hwk⟩, ⟨%d3, %g3, %e3, Hwv⟩, ⟨%d4, %g4, %e4, Hwqr⟩, ⟨%d5, %g5, %e5, Hwkr⟩, ⟨%d6, %g6, %e6, Hout⟩⟩
  subst e0 e1 e2 e3 e4 e5
  iapply (body_run m c W g6 fun _ => bodyPost m c)
  isplitl [Hst]; · iexact Hst
  isplitl [Hscr]; · iexact Hscr
  isplitl [HO]; · iexact HO
  isplitl [Hx]; · iexact Hx
  isplitl [Hwd]; · iexact Hwd
  isplitl [Hwk]; · iexact Hwk
  isplitl [Hwv]; · iexact Hwv
  isplitl [Hwqr]; · iexact Hwqr
  isplitl [Hwkr]; · iexact Hwkr
  isplitl [Hout]; · iexact Hout
  iintro H; iexact H

set_option maxRecDepth 16000 in
/-- The obligation the pipeline asks of the body on core `c`. -/
theorem body_obligation (c : Dev nD) : BodyObligation (dats (F := F) m 0 c) (defs₀ (F := F)) 𝒱₀ () Set.univ := fun t => by
  rw [fin_N0 t]
  rw [show (bigSep (Finset.univ : Finset (Fin cfg0.W)) : (Fin cfg0.W → sProp 𝕄) → sProp 𝕄) = bigSep (Finset.univ : Finset (Fin 7)) from rfl, bigSep_W0, bigSep_W0]
  simp only [whole_owned]
  exact body_pre m c

end Cert.KernelIdeal.Mla
-- ==== Proof.Launch.lean ====
module

public import proofs.«01_k».proof.Proof.Body

@[expose] public section

noncomputable section

namespace Cert.KernelIdeal.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells and what the launch deals -/

abbrev osem : Fin 8 → SemLoc sig := fun k => .dma ⟨7 + k.val, by have := k.isLt; show 7 + k.val < 15; omega⟩

def csem : Fin 7 → SemLoc sig := ![.reg barS, .dma sd0, .dma sd1, .dma sd2, .dma rv0, .dma rv1, .dma rv2]
abbrev kcell (ck : Dev nD × Fin 7) : GSem nD τ sig := ((ck.1 : Thread nD τ), csem ck.2)

theorem csem_injective : Function.Injective csem := by decide
theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]
theorem kcell_iff {a b : Dev nD × Fin 7} : Iff (kcell a = kcell b) (a = b) := kcell_injective.eq_iff
def mlaCells : Finset (GSem nD τ sig) := Finset.univ.map ⟨kcell, kcell_injective⟩

/-- Every cell has one duty, in round 0. -/
abbrev tokOf (ck : Dev nD × Fin 7) : GSem nD τ sig × ℕ × Unit := (kcell ck, 0, ())
theorem tokOf_injective : Function.Injective (tokOf : Dev nD × Fin 7 → GSem nD τ sig × ℕ × Unit) := fun _ _ h => kcell_injective (congrArg Prod.fst h)
def mlaToks : Finset (GSem nD τ sig × ℕ × Unit) := Finset.univ.map ⟨tokOf, tokOf_injective⟩

def u₀ : UU := (initOf (Pipeline.cells cfgs cellOf_inj) (Pipeline.launchToks cfgs cellOf_inj), (initOf mlaCells mlaToks, 1))

def G (c : Dev nD) : sProp 𝕄 :=
  iprop((bigSep Finset.univ fun k : Fin 7 => roundState ER (Rm m) (kcell (c, k)) 0)
    ∗ (bigSep Finset.univ fun k : Fin 7 => iprop(atPos ER (kcell (c, k)) 0 ∅ 0 ∗ reached ER (kcell (c, k)) 0))
    ∗ (bigSep Finset.univ fun k : Fin 7 => dutyTok ER (kcell (c, k)) 0 ()))

def G' (c : Dev nD) : sProp 𝕄 := iprop((∃ K, ghost (wcA m) (wkA m) (wvA m) K c) ∗ spare c)

theorem bigSep_7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem cells_sep (Φ : GSem nD τ sig → sProp 𝕄) :
    bigSep mlaCells Φ = bigSep Finset.univ fun c : Dev nD => bigSep Finset.univ fun k : Fin 7 => Φ (kcell (c, k)) := by
  unfold mlaCells; rw [bigSep_map, bigSep_univ_prod]; rfl
theorem toks_sep :
    bigSep mlaToks (fun x => (dutyTok ER x.1 x.2.1 x.2.2 : sProp 𝕄)) = bigSep Finset.univ fun c : Dev nD => bigSep Finset.univ fun k : Fin 7 => dutyTok ER (kcell (c, k)) 0 () := by
  unfold mlaToks; rw [bigSep_map, bigSep_univ_prod]; rfl

theorem fund : BI.own (ER (initOf mlaCells mlaToks)) ⊢ (|==> bigSep Finset.univ (G m) : sProp 𝕄) := by
  iintro HX
  imod (Rounds.fund ER (Rm m) mlaCells mlaToks) $$ HX with ⟨Hst, Hr, Hat, Htok⟩
  imodintro
  ihave Hst := (Entails.of_eq (cells_sep fun g => roundState ER (Rm m) g 0)) $$ Hst
  ihave Hat := (Entails.of_eq (cells_sep fun g => atPos ER g 0 ∅ 0)) $$ Hat
  ihave Hr := (Entails.of_eq (cells_sep fun g => reached ER g 0)) $$ Hr
  ihave Htok := (Entails.of_eq toks_sep) $$ Htok
  unfold G; simp only [bigSep_sep']
  isplitl [Hst]; · iexact Hst
  isplitl [Hat Hr]
  · isplitl [Hat] <;> iassumption
  iexact Htok

theorem ownSems_eq (c : Dev nD) : (Pipeline.ownSems0 (Ix := Unit) (Name := ℕ) (U := UU) (Lvl := ℕ) (Val := Elt F) (τ := τ) osem c : sProp 𝕄) = freeSems c := by
  rw [Pipeline.ownSems0_eq_of_list c osem [0, 1, 2, 3, 4, 5, 6, 7] (by decide) (by decide)]; rfl
theorem barSem_eq (c : Dev nD) : (unscopedSems0 c : sProp 𝕄) = semVal (barC c) 0 := by
  unfold unscopedSems0; rw [bigSep_eq_bigSepL_of_eq [SemLoc.reg barS] (by decide) (by decide)]; rfl

theorem sems_deal (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 7 => semVal (kcell (c, k)) 0) ∗ spare c : sProp 𝕄) := by
  rw [ownSems_eq, barSem_eq, bigSep_7]
  unfold freeSems spare
  iintro ⟨⟨H0, H1, H2, H3, H4, H5, H6, H7⟩, HB⟩
  isplitr [H6 H7]
  · isplitl [HB]; · iexact HB
    isplitl [H0]; · iexact H0
    isplitl [H1]; · iexact H1
    isplitl [H2]; · iexact H2
    isplitl [H3]; · iexact H3
    isplitl [H4]; · iexact H4
    iexact H5
  · isplitl [H6] <;> iassumption

theorem dev_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rm m) κ (kcell (c, k))))
          ∗ (bigSep Finset.univ fun k => iprop(atPos ER (kcell (c, k)) 0 ∅ 0 ∗ reached ER (kcell (c, k)) 0))
          ∗ (bigSep Finset.univ fun k : Fin 7 => dutyTok ER (kcell (c, k)) 0 ()) ∗ spare c) := by
  unfold G
  iintro ⟨Hos, Hus, Hst, Hat, Htok⟩
  ihave Hv := (sems_deal (F := F) c) $$ [Hos Hus]
  · isplitl [Hos] <;> iassumption
  icases Hv with ⟨Hv, Hsp⟩
  have alloc : iprop((bigSep Finset.univ fun k : Fin 7 => semVal (kcell (c, k)) 0) ∗ bigSep Finset.univ fun k : Fin 7 => roundState ER (Rm m) (kcell (c, k)) 0)
      ⊢ (|={Set.univ}=> bigSep Finset.univ fun k => iprop(∃ κ : ℕ, cellInv ER (Rm m) κ (kcell (c, k))) : sProp 𝕄) := by
    rw [← bigSep_sep']
    exact (bigSep_mono fun k _ => (Rounds.body_intro ER (Rm m) (kcell (c, k))).trans inv_alloc).trans (bigSep_fupd _ _)
  imod alloc $$ [Hv Hst] with Hinv
  · isplitl [Hv] <;> iassumption
  imodintro
  isplitl [Hinv]; · iexact Hinv
  isplitl [Hat]; · iexact Hat
  isplitl [Htok]; · iexact Htok
  iexact Hsp

/-- What every device knows: every cell's invariant, and that every cell is at round 0. -/
def records (K : Dev nD × Fin 7 → ℕ) : sProp 𝕄 :=
  iprop((bigSep Finset.univ fun ck : Dev nD × Fin 7 => cellInv ER (Rm m) (K ck) (kcell ck)) ∗ bigSep Finset.univ fun ck : Dev nD × Fin 7 => reached ER (kcell ck) 0)
instance records_persistent (K : Dev nD × Fin 7 → ℕ) : BI.Persistent (records m K) := by unfold records; infer_instance
theorem inv_at (K : Dev nD × Fin 7 → ℕ) (ck : Dev nD × Fin 7) :
    (bigSep Finset.univ fun ck : Dev nD × Fin 7 => (cellInv ER (Rm m) (K ck) (kcell ck) : sProp 𝕄)) ⊢ cellInv ER (Rm m) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 := bigSep_elim (Finset.mem_univ ck)

/-- What stays with one device. -/
def linear (c : Dev nD) : sProp 𝕄 := iprop((bigSep Finset.univ fun k : Fin 7 => atPos ER (kcell (c, k)) 0 ∅ 0) ∗ payToks c ∗ spare c)

theorem ghost_intro (K : Dev nD × Fin 7 → ℕ) (c : Dev nD) : iprop(records m K ∗ linear c) ⊢ G' m c := by
  unfold records linear G' ghost invs
  rw [bigSep_7]
  iintro ⟨⟨#HI, #HR⟩, ⟨A0, A1, A2, A3, A4, A5, A6⟩, Ht, Hsp⟩
  isplitr [Hsp]
  · iexists K
    isplitr
    · isplitr; · iapply (inv_at m K (c, 0)); iexact HI
      isplitr; · iapply (inv_at m K (c, 1)); iexact HI
      isplitr; · iapply (inv_at m K (c, 2)); iexact HI
      isplitr; · iapply (inv_at m K (c, 3)); iexact HI
      isplitr; · iapply (inv_at m K (c, 4)); iexact HI
      isplitr; · iapply (inv_at m K (c, 5)); iexact HI
      isplitr; · iapply (inv_at m K (c, 6)); iexact HI
      isplitr; · iapply (inv_at m K (ptn c, 0)); iexact HI
      isplitr; · iapply (inv_at m K (ptn c, 4)); iexact HI
      isplitr; · iapply (inv_at m K (ptn c, 5)); iexact HI
      iapply (inv_at m K (ptn c, 6)); iexact HI
    isplitl [A0]; · iexact A0
    isplitl [A1]; · iexact A1
    isplitl [A2]; · iexact A2
    isplitl [A3]; · iexact A3
    isplitl [A4]; · iexact A4
    isplitl [A5]; · iexact A5
    isplitl [A6]; · iexact A6
    isplitr; · iapply (reached_at (F := F) (ptn c, 0)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    isplitr; · iapply (reached_at (F := F) (c, 6)); iexact HR
    iexact Ht
  · iexact Hsp

/-- The barrier's and the receive cells' tokens cross to the partner. -/
theorem toks_cross : (bigSep Finset.univ fun c : Dev nD => bigSep Finset.univ fun k : Fin 7 => (dutyTok ER (kcell (c, k)) 0 () : sProp 𝕄))
    ⊢ bigSep Finset.univ fun c : Dev nD => payToks c := by
  simp only [bigSep_7]
  unfold payToks
  simp only [bigSep_sep']
  rw [bigSep_univ_equiv swapY (fun c : Dev nD => (dutyTok ER (kcell (c, 0)) 0 () : sProp 𝕄)),
    bigSep_univ_equiv swapY (fun c : Dev nD => (dutyTok ER (kcell (c, 4)) 0 () : sProp 𝕄)),
    bigSep_univ_equiv swapY (fun c : Dev nD => (dutyTok ER (kcell (c, 5)) 0 () : sProp 𝕄)),
    bigSep_univ_equiv swapY (fun c : Dev nD => (dutyTok ER (kcell (c, 6)) 0 () : sProp 𝕄))]
  iintro ⟨H0, H1, H2, H3, H4, H5, H6⟩
  isplitl [H0]; · iexact H0
  isplitl [H4]; · iexact H4
  isplitl [H5]; · iexact H5
  isplitl [H6]; · iexact H6
  isplitl [H1]; · iexact H1
  isplitl [H2]; · iexact H2
  iexact H3

theorem sep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rm m) κ (kcell (c, k))))
          ∗ (bigSep Finset.univ fun k => iprop(atPos ER (kcell (c, k)) 0 ∅ 0 ∗ reached ER (kcell (c, k)) 0))
          ∗ (bigSep Finset.univ fun k : Fin 7 => dutyTok ER (kcell (c, k)) 0 ()) ∗ spare c) : sProp 𝕄)
      ⊢ bigSep Finset.univ (G' m) := by
  rw [bigSep_sep', bigSep_sep', bigSep_sep', ← bigSep_univ_prod (fun ck : Dev nD × Fin 7 => iprop(∃ κ : ℕ, cellInv ER (Rm m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hsp⟩
  ihave HK := (BI.bigSep_exists_pi Finset.univ (fun (ck : Dev nD × Fin 7) (κ : ℕ) => (cellInv ER (Rm m) κ (kcell ck) : sProp 𝕄))) $$ HI
  icases HK with ⟨%K, #HI⟩
  ihave Htk := (toks_cross (F := F)) $$ Htok
  iapply (sep_with (R := records m K) fun c _ => ghost_intro m K c)
  isplitr
  · unfold records; isplitl; · iexact HI
    iexact HR
  · unfold linear
    rw [bigSep_sep', bigSep_sep']
    isplitl [Hat]; · iexact Hat
    isplitl [Htk]; · iexact Htk
    iexact Hsp

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => dev_alloc m c).trans (bigSep_fupd _ _)).trans (BI.fupd_mono (regroup m))

/-! ## The launch credit -/

/-- One summand of what `d` owes, read at a cell of `c`: nothing, unless `d` is the partner and the semaphore is that one. -/
theorem owed_one (d c : Dev nD) (k : Fin 7) (j : Fin 7) (n : ℕ) :
    tallyAt (kcell (ptn d, j)) () n (kcell (c, k)) () = if d = ptn c then (if j = k then n else 0) else 0 := by
  rw [tallyAt_apply]
  by_cases h : d = ptn c
  · subst h
    rw [ptn_ptn, if_pos rfl]
    by_cases hk : j = k
    · subst hk; rw [if_pos ⟨rfl, rfl⟩, if_pos rfl]
    · rw [if_neg (fun h' => hk (congrArg Prod.snd (kcell_injective h'.1)).symm), if_neg hk]
  · rw [if_neg h]
    refine if_neg fun h' => h ?_
    have := congrArg Prod.fst (kcell_injective h'.1)
    rw [show c = ptn d from this, ptn_ptn]

def owedTab : Fin 7 → ℕ := ![1, 0, 0, 0, NC, NU, NU]

theorem owed_at (d c : Dev nD) (k : Fin 7) : O₀ d (kcell (c, k)) () = if d = ptn c then owedTab k else 0 := by
  have e : O₀ d = tallyAt (kcell (ptn d, 4)) () NC + tallyAt (kcell (ptn d, 6)) () NU + tallyAt (kcell (ptn d, 5)) () NU + tallyAt (kcell (ptn d, 0)) () 1 := rfl
  rw [e, Pi.add_apply, Finsupp.add_apply, Pi.add_apply, Finsupp.add_apply, Pi.add_apply, Finsupp.add_apply, owed_one, owed_one, owed_one, owed_one]
  by_cases h : d = ptn c
  · simp only [if_pos h]
    fin_cases k <;> simp [owedTab]
  · simp only [if_neg h]

theorem launch_at (c : Dev nD) (k : Fin 7) :
    tallyOn (kcell (c, k)) (launchCredit (Pipeline.owing O₀) 0 (kcell (c, k))) = (tallyAt (kcell (c, k)) () (owedTab k) : CellTallies nD τ sig Unit) := by
  unfold tallyAt; refine congrArg _ (Finsupp.ext fun u => ?_); cases u
  rw [Pipeline.launchCredit_owing, Finsupp.single_eq_same, Finset.sum_congr rfl fun d _ => owed_at d c k, Finset.sum_ite_eq' Finset.univ (ptn c) fun _ => owedTab k,
    if_pos (Finset.mem_univ _)]

theorem creds (c : Dev nD) : (Pipeline.launchCred O₀ c : sProp 𝕄) ⊢ iprop(cred (tallyAt (barC c) () 1) ∗ cred (tallyAt (dmaC c rv0) () NC)
    ∗ cred (tallyAt (dmaC c rv1) () NU) ∗ cred (tallyAt (dmaC c rv2) () NU)) := by
  have e : (bigSep ((Finset.univ : Finset (Fin 7)).map ⟨csem, csem_injective⟩) fun s => (cred (tallyOn ((c : Thread nD τ), s) (launchCredit (Pipeline.owing O₀) 0 ((c : Thread nD τ), s))) : sProp 𝕄))
      = bigSep Finset.univ fun k : Fin 7 => (cred (tallyAt (kcell (c, k)) () (owedTab k)) : sProp 𝕄) := by
    rw [bigSep_map]; exact bigSep_congr fun k _ => congrArg cred (launch_at c k)
  unfold Pipeline.launchCred
  refine (bigSep_subset (Finset.subset_univ ((Finset.univ : Finset (Fin 7)).map ⟨csem, csem_injective⟩))).trans ((Entails.of_eq e).trans ?_)
  rw [bigSep_7]
  iintro ⟨H0, -, -, -, H4, H5, H6⟩
  isplitl [H0]; · iexact H0
  isplitl [H4]; · iexact H4
  isplitl [H5]; · iexact H5
  iexact H6

/-! ## The launch theorem's side conditions -/

theorem ownSemFacts : Pipeline.OwnSemFacts cfg0.spec osem := by decide
theorem share_full (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  refine (sep_mono_left (Entails.of_eq (unscopedRest0_eq c _))).trans ?_
  unfold G' start startG arrs held
  iintro ⟨⟨H4, H7⟩, Hlev, Hcr, -, ⟨⟨%K, HG⟩, Hsp⟩⟩
  ihave Hc := (creds (F := F) c) $$ Hcr
  icases Hc with ⟨C0, C4, C5, C6⟩
  imodintro
  isplitl
  · isplitr [Hsp H4 H7]
    · iexists K
      isplitl [HG]; · iexact HG
      isplitl [C0]; · iexact C0
      isplitl [C4]; · iexact C4
      isplitl [C5]; · iexact C5
      isplitl [C6]; · iexact C6
      iexact Hlev
    isplitl [Hsp]; · iexact Hsp
    isplitl [H4]; · iexact H4
    iexact H7
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (Entails.of_eq (scr_eq (F := F) c)); iexact Hr

theorem phi1_exit (c : Dev nD) :
    (dats m 0 c).Φ (Fin.last cfg0.N) ⊢ iprop((unscopedSems0 c ∗ arrs m c) ∗ Pipeline.ownSems0 osem c ∗ Pipeline.scopedRest cfg0.spec c) := by
  rw [show (dats m 0 c).Φ (Fin.last cfg0.N) = Φ₁ m c from rfl, ownSems_eq, barSem_eq]
  unfold Φ₁
  iintro ⟨Hr, Hb, Hf, Ha⟩
  isplitl [Hb Ha]
  · isplitl [Hb] <;> iassumption
  isplitl [Hf]; · iexact Hf
  iapply (Entails.of_eq (scr_eq (F := F) c).symm); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- The two arrays read back from a final state. -/
theorem arrs_read (c : Dev nD) (s' : Phys nD τ sig (Elt F)) :
    iprop(arrs m c ∗ SI s') ⊢ (⌜s'.mem.mem ((c : Thread nD τ).loc main_arg4) = m ((c : Thread nD τ).loc main_arg4)
      ∧ s'.mem.mem ((c : Thread nD τ).loc main_arg7) = m ((c : Thread nD τ).loc main_arg7)⌝ : sProp 𝕄) := by
  unfold arrs held
  iintro ⟨⟨H4, H7⟩, HSI⟩
  ihave %h4 := (SI_pointsTo_agree (st := s') (ℓ := (c : Thread nD τ).loc main_arg4) (I := Finset.univ) (q := fullShare) (f := m ((c : Thread nD τ).loc main_arg4))) $$ [H4 HSI]
  · isplitl [HSI]; · iexact HSI
    iexact H4
  ihave %h7 := (SI_pointsTo_agree (st := s') (ℓ := (c : Thread nD τ).loc main_arg7) (I := Finset.univ) (q := fullShare) (f := m ((c : Thread nD τ).loc main_arg7))) $$ [H7 HSI]
  · isplitl [HSI]; · iexact HSI
    iexact H7
  ipureintro
  exact ⟨funext fun i => h4 i (Finset.mem_univ i), funext fun i => h7 i (Finset.mem_univ i)⟩

/-! ## The run -/

def QC (c : Dev nD) (s : MemSt nD τ sig (Elt F)) : Prop :=
  (∀ w : Fin cfg0.W, s.mem ((cfg0.win w).arr.view.loc (c : Thread nD τ)) = (dats m 0 c).arrAt w cfg0.N)
    ∧ s.mem ((c : Thread nD τ).loc main_arg4) = m ((c : Thread nD τ).loc main_arg4) ∧ s.mem ((c : Thread nD τ).loc main_arg7) = m ((c : Thread nD τ).loc main_arg7)

set_option maxRecDepth 8000 in
/-- Every weakly fair execution of the program ends, in a state where every device's arrays hold what the proof says and every semaphore is at zero. -/
theorem run_main : θ_run defs (onTc (τ := τ) (main (F := F))) (startM m ρ) (fun r => (∀ c : Dev nD, QC m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      ihave HX := (Entails.of_eq (show (BI.own ((Emb.inl.trans embR) (initOf mlaCells mlaToks)) : sProp 𝕄) = BI.own (ER (initOf mlaCells mlaToks)) from rfl)) $$ HX
      imod (fund m) $$ HX with HG
      imodintro
      isplitl [HP] <;> iassumption)
    (hglob := glob m)
    (hA := fun _ _ => rfl) (hpf := fun _ k => k.elim0)
    (X := start m) (Y := fun c => iprop(unscopedSems0 c ∗ arrs m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg4) = m ((c : Thread nD τ).loc main_arg4) ∧ s.mem ((c : Thread nD τ).loc main_arg7) = m ((c : Thread nD τ).loc main_arg7))
    (hY := fun c s' => by
      iintro ⟨⟨Hu, Ha⟩, -, HSI⟩
      ihave %h := (arrs_read m c s') $$ [Ha HSI]
      · isplitl [Ha] <;> iassumption
      imod (Pipeline.unscopedSems0_read (X := unscopedSems0 c) (c := c) fupd_intro s') $$ [Hu HSI] with ⟨%hs, HSI⟩
      · isplitl [Hu] <;> iassumption
      imodintro
      isplitr; · ipureintro; exact ⟨hs, h⟩
      iexact HSI)
    (hQ := fun _ h hs => ⟨fun c => ⟨(h c).1, (h c).2.2.2⟩, sem_eq_zero hs fun c => (h c).2.2.1⟩)

/-! ## What the arrays hold at the end -/

theorem final_in (c : Dev nD) (w : Fin cfg0.W) (h : (cfg0.win w).isOut = false) : (dats m 0 c).arrAt w cfg0.N = m ((cfg0.win w).arr.view.loc (c : Thread nD τ)) :=
  (dats (F := F) m 0 c).arrAt_in w h _

theorem whole_out : (cfg0.win (6 : Fin 7)).WholeAt t0_0 := by
  refine ⟨rfl, fun t _ => fin_N0 t, fun a => ?_⟩; fin_cases a <;> exact ⟨rfl, rfl⟩

theorem final_out (c : Dev nD) : (dats m 0 c).arrAt (6 : Fin 7) cfg0.N = outA m c :=
  (dats (F := F) m 0 c).arrAt_eq_of_after_last (6 : Fin 7) t0_0 whole_out (outA m c) (fun _ => rfl)

end Cert.KernelIdeal.Mla
-- ==== Proof.Frames.lean ====
module

public import proofs.«01_k».proof.Proof.Launch
public import proofs.«01_k».proof.Defs
public import proofs.«01_k».proof.Proof.Gen.ReferenceIdeal.Run
public import proofs.«01_k».proof.Proof.Gen.Kernel

@[expose] public section

noncomputable section

namespace Cert.KernelIdeal.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- Every argument array is as it was. -/
def Kept (m : (ℓ : Loc nD τ sig) → Buf (Elt F) ℓ) (s : MemSt nD τ sig (Elt F)) (c : Dev nD) : Prop :=
  s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3) ∧ s.mem ((c : Thread nD τ).loc main_arg4) = m ((c : Thread nD τ).loc main_arg4) ∧ s.mem ((c : Thread nD τ).loc main_arg5) = m ((c : Thread nD τ).loc main_arg5) ∧ s.mem ((c : Thread nD τ).loc main_arg6) = m ((c : Thread nD τ).loc main_arg6) ∧ s.mem ((c : Thread nD τ).loc main_arg7) = m ((c : Thread nD τ).loc main_arg7)

theorem kept (c : Dev nD) (s : MemSt nD τ sig (Elt F)) (h : QC m c s) : Kept m s c :=
  ⟨(h.1 0).trans (final_in m c 0 rfl), (h.1 1).trans (final_in m c 1 rfl), (h.1 2).trans (final_in m c 2 rfl), (h.1 3).trans (final_in m c 3 rfl),
    h.2.1, (h.1 4).trans (final_in m c 4 rfl), (h.1 5).trans (final_in m c 5 rfl), h.2.2⟩

theorem frame_run : θ_run defs (onTc (τ := τ) (main (F := F))) (startM m ρ) (fun r => (∀ c : Dev nD, Kept m r.2 c) ∧ r.2.sem = fun _ => 0) :=
  (θ_run defs _ _).mono (fun _ h => ⟨fun c => kept m c _ (h.1 c), h.2⟩) (run_main m ρ)

theorem value_run : θ_run defs (onTc (τ := τ) (main (F := F))) (startM m ρ)
    (fun r => ∀ c : Dev nD, r.2.mem ((c : Thread nD τ).loc main_v1) = outA m c ∧ Kept m r.2 c) :=
  (θ_run defs _ _).mono (fun _ h c => ⟨((h.1 c).1 6).trans (final_out m c), kept m c _ (h.1 c)⟩) (run_main m ρ)

theorem frame_ideal : Cert.quiescent_KernelIdeal (hKernelIdeal := Cert.KernelIdeal.Gen.facts) := fun m ρ _ => frame_run (F := Ideal) m ρ

/-- The named factor read as the word the kernel is printed with, so that the one run serves the kernel's own text too. -/
@[instance_reducible, local instance] def wordNamed : Named Bits where
  named _ _ {φ} bits := Scalar.ofBits φ bits

/-- The program as printed and the program read at the ideal instance have one body. -/
theorem body_eq : ∀ a0 h0 a1 h1 a2 h2 a3 h3 a4 h4 a5 h5 a6 h6 a7 h7 a8 h8 a9 h9 a10 h10 a11 h11 a12 h12 a13 h13 a14 h14 a15 h15 a16 h16 a17 h17 a18 h18 a19 h19 a20 a21 a22, @Cert.Kernel.cc0__body Bits _ Cert.Kernel.Gen.facts a0 h0 a1 h1 a2 h2 a3 h3 a4 h4 a5 h5 a6 h6 a7 h7 a8 h8 a9 h9 a10 h10 a11 h11 a12 h12 a13 h13 a14 h14 a15 h15 a16 h16 a17 h17 a18 h18 a19 h19 a20 a21 a22
    = @Cert.KernelIdeal.cc0__body Bits _ _ Cert.KernelIdeal.Gen.facts a0 h0 a1 h1 a2 h2 a3 h3 a4 h4 a5 h5 a6 h6 a7 h7 a8 h8 a9 h9 a10 h10 a11 h11 a12 h12 a13 h13 a14 h14 a15 h15 a16 h16 a17 h17 a18 h18 a19 h19 a20 a21 a22 := by
  intros; rfl

theorem defs₀_eq : @Cert.Kernel.defs₀ Bits _ Cert.Kernel.Gen.facts = @Cert.KernelIdeal.defs₀ Bits _ _ Cert.KernelIdeal.Gen.facts := by
  unfold Cert.Kernel.defs₀ Cert.KernelIdeal.defs₀
  refine congrArg Defs.onTc ?_
  funext l a
  obtain ⟨_ | n, hl⟩ := l
  · obtain ⟨t, s⟩ := a
    exact body_eq _ _ _ _ _ _ _ _ _ _ _ _ _ _ _ _ _ _ _ _ _ _ _ _ _ _ _ _ _ _ _ _ _ _ _ _ _ _ _ _ _ _ _
  · exact absurd hl (Nat.not_lt.2 (Nat.le_add_left _ _))

theorem defs_eq : @Cert.Kernel.defs Bits _ Cert.Kernel.Gen.facts = @Cert.KernelIdeal.defs Bits _ _ Cert.KernelIdeal.Gen.facts :=
  congrArg (Pipeline.defs (Cert.KernelIdeal.pcfgs (F := Bits))) defs₀_eq

theorem frame_kernel : Cert.quiescent_Kernel (hKernel := Cert.Kernel.Gen.facts) := fun m ρ _ =>
  (congrArg (fun d => θ_run d (onTc (τ := τ) (main (F := Bits))) (startM m ρ) (fun r => (∀ c : Dev nD, Kept m r.2 c) ∧ r.2.sem = fun _ => 0)) defs_eq).mpr (frame_run (F := Bits) m ρ)

theorem preserves_named : Cert.preserves_Kernel_KernelIdeal :=
  IdealRules.named_const.statement κ "inv_sqrt_160" .f32 0x3DA1E89B#32 (((Real.sqrt 160)⁻¹ : ℝ) : EReal) rfl

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelIdeal.Mla
-- ==== Proof.Softmax.lean ====
module

public import Idealize.ShloMosaic.Lib.Pointwise

@[expose] public section

noncomputable section

namespace Cert.KernelIdeal.Mla

open Idealize.ShloMosaic

/-- An extended real that is an ordinary real number. -/
def IsReal (a : EReal) : Prop := ∃ r : ℝ, a = (r : EReal)

theorem isReal_coe (r : ℝ) : IsReal (r : EReal) := ⟨r, rfl⟩
theorem IsReal.add {a b : EReal} (ha : IsReal a) (hb : IsReal b) : IsReal (a + b) := by
  obtain ⟨r, rfl⟩ := ha
  obtain ⟨s, rfl⟩ := hb
  exact ⟨r + s, (EReal.coe_add r s).symm⟩
theorem IsReal.mul {a b : EReal} (ha : IsReal a) (hb : IsReal b) : IsReal (a * b) := by
  obtain ⟨r, rfl⟩ := ha
  obtain ⟨s, rfl⟩ := hb
  exact ⟨r * s, (EReal.coe_mul r s).symm⟩
theorem coe_sum {n : ℕ} (f : Fin n → ℝ) : ((∑ k, f k : ℝ) : EReal) = ∑ k, (f k : EReal) := by
  have h : ∀ t : Finset (Fin n), ((∑ k ∈ t, f k : ℝ) : EReal) = ∑ k ∈ t, (f k : EReal) := fun t => by
    induction t using Finset.cons_induction with
    | empty => simp
    | cons a t ha ih => rw [Finset.sum_cons, Finset.sum_cons, EReal.coe_add, ih]
  exact h Finset.univ
theorem isReal_sum {n : ℕ} {f : Fin n → EReal} (h : ∀ k, IsReal (f k)) : IsReal (∑ k, f k) := by
  choose g hg using h
  exact ⟨∑ k, g k, by rw [coe_sum]; exact Finset.sum_congr rfl fun k _ => hg k⟩
/-- A value whose magnitude is below infinity is a real number. -/
theorem isReal_of_abs_lt {a : EReal} (h : max a (-a) < ⊤) : IsReal a := by
  induction a using EReal.rec with
  | bot => exact absurd h (by simp)
  | top => exact absurd h (by simp)
  | coe r => exact isReal_coe r

/-- A nonnegative real factor moves into a sum of extended reals. -/
theorem real_mul_sum {n : ℕ} {r : ℝ} (hr : 0 ≤ r) (f : Fin n → EReal) : (r : EReal) * ∑ k, f k = ∑ k, (r : EReal) * f k := by
  have h : ∀ t : Finset (Fin n), (r : EReal) * ∑ k ∈ t, f k = ∑ k ∈ t, (r : EReal) * f k := fun t => by
    induction t using Finset.cons_induction with
    | empty => simp
    | cons a t ha ih =>
      rw [Finset.sum_cons, Finset.sum_cons, EReal.left_distrib_of_nonneg_of_ne_top (EReal.coe_nonneg.2 hr) (EReal.coe_ne_top r), ih]
  exact h Finset.univ

/-- A fold of maxima of real numbers is a real number, when there is one. -/
theorem fold_max_real {n : ℕ} (hn : 0 < n) (s : Fin n → ℝ) : IsReal (Finset.univ.fold max ⊥ fun k => (s k : EReal)) := by
  have h : ∀ t : Finset (Fin n), (Finset.fold max ⊥ (fun k => (s k : EReal)) t = ⊥ ∧ t = ∅) ∨ IsReal (Finset.fold max ⊥ (fun k => (s k : EReal)) t) := fun t => by
    induction t using Finset.cons_induction with
    | empty => exact .inl ⟨Finset.fold_empty, rfl⟩
    | cons a t ha ih =>
      right
      rw [Finset.fold_cons]
      rcases ih with ⟨e, -⟩ | ⟨r, e⟩
      · rw [e, max_eq_left bot_le]; exact isReal_coe _
      · rw [e]
        rcases le_total (s a : EReal) r with h | h
        · rw [max_eq_right h]; exact isReal_coe _
        · rw [max_eq_left h]; exact isReal_coe _
  rcases h Finset.univ with ⟨-, e⟩ | e
  · exact absurd (Finset.mem_univ (⟨0, hn⟩ : Fin n)) (by rw [e]; exact Finset.notMem_empty _)
  · exact e

/-- The row of weights divided by its sum, the largest score taken off first, is the plain row divided at the end. -/
theorem softmax_row {n : ℕ} (hn : 0 < n) (s : Fin n → EReal) (hs : ∀ t, IsReal (s t)) (v : Fin n → EReal) :
    (∑ t, Ideal.exp (s t) * v t) * Ideal.div 1 (∑ t, Ideal.exp (s t))
      = ∑ t, v t * Ideal.div (Ideal.exp (s t - Finset.univ.fold max ⊥ s)) (∑ u, Ideal.exp (s u - Finset.univ.fold max ⊥ s)) := by
  choose r hr using hs
  obtain rfl : s = fun t => (r t : EReal) := funext hr
  obtain ⟨m, hm⟩ := fold_max_real hn r
  rw [hm]
  have e1 : ∀ t, Ideal.exp (r t : EReal) = ((Real.exp (r t) : ℝ) : EReal) := fun t => rfl
  have e2 : ∀ t, Ideal.exp ((r t : EReal) - (m : EReal)) = ((Real.exp (r t - m) : ℝ) : EReal) := fun t => by
    rw [← EReal.coe_sub]; rfl
  simp only [e1, e2, ← coe_sum]
  haveI : Nonempty (Fin n) := ⟨⟨0, hn⟩⟩
  have p1 : 0 < ∑ t, Real.exp (r t) := Finset.sum_pos (fun t _ => Real.exp_pos _) Finset.univ_nonempty
  have p2 : 0 < ∑ t, Real.exp (r t - m) := Finset.sum_pos (fun t _ => Real.exp_pos _) Finset.univ_nonempty
  simp only [Ideal.div_coe p1.ne', Ideal.div_coe p2.ne', one_mul]
  rw [mul_comm, real_mul_sum (one_div_nonneg.2 p1.le)]
  refine Finset.sum_congr rfl fun t _ => ?_
  rw [← EReal.coe_mul, mul_comm (v t), ← mul_assoc, ← EReal.coe_mul]
  congr 2
  have : ∑ u, Real.exp (r u - m) = (∑ u, Real.exp (r u)) * Real.exp (-m) := by
    rw [Finset.sum_mul]; exact Finset.sum_congr rfl fun u _ => by rw [← Real.exp_add, sub_eq_add_neg]
  rw [this, sub_eq_add_neg, Real.exp_add]
  have := Real.exp_pos (-m)
  field_simp

/-- The scaled halves of a score, joined, against the joined keys: the scaled sum of the two scores. -/
theorem scale_sums {a b : ℕ} {S : ℝ} (hS : 0 ≤ S) (q k : Fin a → EReal) (p l : Fin b → EReal) :
    (∑ i, q i * (S : EReal) * k i) + ∑ i, p i * (S : EReal) * l i = ((∑ i, q i * k i) + ∑ i, p i * l i) * (S : EReal) := by
  rw [mul_comm _ (S : EReal), EReal.left_distrib_of_nonneg_of_ne_top (EReal.coe_nonneg.2 hS) (EReal.coe_ne_top S),
    real_mul_sum hS, real_mul_sum hS]
  congr 1 <;> exact Finset.sum_congr rfl fun i _ => by rw [mul_comm (_ : EReal) (S : EReal), mul_assoc]

end Cert.KernelIdeal.Mla

end
-- ==== Proof.KerVal.lean ====
module

public import proofs.«01_k».proof.Proof.Body
public import proofs.«01_k».proof.Proof.Softmax

@[expose] public section

noncomputable section

namespace Cert.KernelIdeal.Mla

open Cert.KernelIdeal Cert.KernelIdeal.Gen

open Idealize.ShloMosaic

/-- The factor both programs multiply a score by. -/
def scl : EReal := (((Real.sqrt 160)⁻¹ : ℝ) : EReal)
theorem named_eq : Named.named (F := Ideal) κ "inv_sqrt_160" (φ := .f32) 0x3DA1E89B#32 = scl :=
  IdealRules.named_const.ideal_named_scalar _ _ _ _ rfl

theorem pay3_at (xb : Vec Ideal S1024x2048 .bf16) (w : Vec Ideal S2048x128 .f32) (j : S1024x128.Idx) :
    k0_pay3 (F := Ideal) xb w j = ∑ d : Fin 2048, xb (Idealize.ShloMosaic.ix2 (j 0) d) * w (Idealize.ShloMosaic.ix2 d (j 1)) := by
  pointwise [k0_pay3]
theorem pay6_at (xb : Vec Ideal S1024x2048 .bf16) (w : Vec Ideal S1x2048x512 .f32) (j : S1024x512.Idx) :
    k0_pay6 (F := Ideal) xb w j = (∑ d : Fin 2048, xb (Idealize.ShloMosaic.ix2 (j 0) d) * w (Idealize.ShloMosaic.ix3 0 d (j 1))) * scl := by
  pointwise [k0_pay6, named_eq]
theorem pay11_at (xb : Vec Ideal S1024x2048 .bf16) (w : Vec Ideal S2048x512 .f32) (j : S1024x512.Idx) :
    k0_pay11 (F := Ideal) xb w j = (∑ d : Fin 2048, xb (Idealize.ShloMosaic.ix2 (j 0) d) * w (Idealize.ShloMosaic.ix2 d (j 1))) * scl := by
  pointwise [k0_pay11, named_eq]
theorem pay49_at (xb : Vec Ideal S1024x2048 .bf16) (w : Vec Ideal S2048x32 .f32) (j : S1024x32.Idx) :
    k0_pay49 (F := Ideal) xb w j = ∑ d : Fin 2048, xb (Idealize.ShloMosaic.ix2 (j 0) d) * w (Idealize.ShloMosaic.ix2 d (j 1)) := by
  pointwise [k0_pay49]
theorem pay52_at (C : Vec Ideal S1024x256 .bf16) (U : Vec Ideal S256x2048 .bf16) (j : S1024x2048.Idx) :
    k0_pay52 (F := Ideal) C U j = ∑ d : Fin 256, C (Idealize.ShloMosaic.ix2 (j 0) d) * U (Idealize.ShloMosaic.ix2 d (j 1)) := by
  pointwise [k0_pay52]
theorem pay53_at (C : Vec Ideal S1024x256 .bf16) (U : Vec Ideal S256x2048 .bf16) (j : S1024x2048.Idx) :
    k0_pay53 (F := Ideal) C U j = ∑ d : Fin 256, C (Idealize.ShloMosaic.ix2 (j 0) d) * U (Idealize.ShloMosaic.ix2 d (j 1)) := by
  pointwise [k0_pay53]
theorem pay113_at (w : Vec Ideal S1x2048x512 .f32) (o : Vec Ideal S512x2048 .bf16) (j : S1x512x512.Idx) :
    k0_pay113 (F := Ideal) w o j = ∑ n : Fin 2048, o (Idealize.ShloMosaic.ix2 (j 1) n) * w (Idealize.ShloMosaic.ix3 0 n (j 2)) := by
  pointwise [k0_pay113, k0_pay112]
theorem pay2_at (x : Vec Ideal S2x512x2048 .f32) (r : Fin 1024) (d : Fin 2048) :
    k0_pay2 (F := Ideal) x (Idealize.ShloMosaic.ix2 r d) = x (Idealize.ShloMosaic.ix3 ⟨r / 512, by omega⟩ ⟨r % 512, by omega⟩ d) := by
  pointwise [k0_pay2]
theorem pay54_at (q k v : Vec Ideal S512x128 .bf16) (qr kr : Vec Ideal S1x512x32 .bf16) (j : S512x128.Idx)
    (s : Fin 512 → EReal) (hs : ∀ t : Fin 512, s t
      = (∑ d : Fin 128, q (Idealize.ShloMosaic.ix2 (j 0) d) * k (Idealize.ShloMosaic.ix2 t d))
        + ∑ d : Fin 32, qr (Idealize.ShloMosaic.ix3 0 (j 0) d) * kr (Idealize.ShloMosaic.ix3 0 t d)) :
    k0_pay54 (F := Ideal) q k v qr kr j
      = (∑ t, Ideal.exp (s t) * v (Idealize.ShloMosaic.ix2 t (j 1))) * Ideal.div 1 (∑ t, Ideal.exp (s t)) := by
  simp only [hs]
  pointwise [k0_pay54]

end Cert.KernelIdeal.Mla

end
-- ==== Proof.KerVal2.lean ====
module

public import proofs.«01_k».proof.Proof.KerVal

@[expose] public section

noncomputable section

namespace Cert.KernelIdeal.MlaVal

open Cert.KernelIdeal Cert.KernelIdeal.Gen
open Cert.KernelIdeal.Mla hiding ix2 ix3

open Idealize.ShloMosaic

theorem own2 {a b i j : ℕ} {hi : i < a} {hj : j < b} {i' : Fin a} {j' : Fin b} (h0 : i = i'.val) (h1 : j = j'.val) :
    Mla.ix2 i j hi hj = ix2 i' j' := by
  subst h0 h1
  funext l
  match l with
  | ⟨0, _⟩ => rfl
  | ⟨1, _⟩ => rfl
theorem own3 {a b d i j k : ℕ} {hi : i < a} {hj : j < b} {hk : k < d} {i' : Fin a} {j' : Fin b} {k' : Fin d}
    (h0 : i = i'.val) (h1 : j = j'.val) (h2 : k = k'.val) : Mla.ix3 i j k hi hj hk = ix3 i' j' k' := by
  subst h0 h1 h2
  funext l
  match l with
  | ⟨0, _⟩ => rfl
  | ⟨1, _⟩ => rfl
  | ⟨2, _⟩ => rfl
theorem ix2_congr {a b : ℕ} {i i' : Fin a} {j j' : Fin b} (hi : i.val = i'.val) (hj : j.val = j'.val) : ix2 i j = ix2 i' j' := by
  rw [Fin.ext hi, Fin.ext hj]
theorem ix3_congr {a b d : ℕ} {i i' : Fin a} {j j' : Fin b} {k k' : Fin d} (hi : i.val = i'.val) (hj : j.val = j'.val) (hk : k.val = k'.val) :
    ix3 i j k = ix3 i' j' k' := by
  rw [Fin.ext hi, Fin.ext hj, Fin.ext hk]

/-- Row `i` of batch `b` among the rows of both batches. -/
def row (b : Fin 2) (i : Fin 512) : Fin 1024 := ⟨512 * b.val + i.val, by omega⟩

theorem xb_at (x : Vec Ideal S2x512x2048 .f32) (b : Fin 2) (i : Fin 512) (d : Fin 2048) :
    k0_pay2 (F := Ideal) x (ix2 (row b i) d) = x (ix3 b i d) := by
  rw [pay2_at]
  exact congrArg x (ix3_congr (show (512 * b.val + i.val) / 512 = b.val by omega) (show (512 * b.val + i.val) % 512 = i.val by omega) rfl)

theorem qF_at (xb : Vec Ideal S1024x2048 .bf16) (wq : Vec Ideal S2048x2048 .f32) (r : Fin 1024) (n : Fin 2048) :
    qF (F := Ideal) xb wq (ix2 r n) = (∑ d : Fin 2048, xb (ix2 r d) * wq (ix2 d n)) * scl := by
  refine (pay6_at xb _ _).trans (congrArg (· * scl) (Finset.sum_congr rfl fun d _ => ?_))
  refine congrArg₂ (· * ·) (congrArg xb (ix2_congr rfl rfl)) ?_
  exact congrArg wq (own2 rfl (show (512 * (n.val / 512) + n.val % 512) % 2048 = n.val by omega))

theorem qrF_at (xb : Vec Ideal S1024x2048 .bf16) (w : Vec Ideal S2048x512 .f32) (b : Fin 2) (h : Fin 16) (i : Fin 512) (d : Fin 32) :
    qrF (F := Ideal) xb w (ix3 ⟨16 * b.val + h.val, by omega⟩ i d)
      = (∑ j : Fin 2048, xb (ix2 (row b i) j) * w (ix2 j ⟨h.val * 32 + d.val, by omega⟩)) * scl := by
  refine (pay11_at xb _ _).trans (congrArg (· * scl) (Finset.sum_congr rfl fun j _ => ?_))
  refine congrArg₂ (· * ·) (congrArg xb (ix2_congr ?_ rfl)) (congrArg w (ix2_congr rfl ?_))
  · show (512 * ((16 * b.val + h.val) / 16) + i.val) % 1024 = 512 * b.val + i.val
    omega
  · show (32 * ((16 * b.val + h.val) % 16) + d.val) % 512 = h.val * 32 + d.val
    omega

theorem krF_at (xb : Vec Ideal S1024x2048 .bf16) (w : Vec Ideal S2048x32 .f32) (b : Fin 2) (i : Fin 512) (d : Fin 32) :
    krF (F := Ideal) xb w (ix3 b i d) = ∑ j : Fin 2048, xb (ix2 (row b i) j) * w (ix2 j d) := by
  refine (pay49_at xb _ _).trans (Finset.sum_congr rfl fun j _ => ?_)
  refine congrArg₂ (· * ·) (congrArg xb (ix2_congr ?_ rfl)) (congrArg w (ix2_congr rfl rfl))
  show (512 * b.val + i.val) % 1024 = 512 * b.val + i.val
  omega

/-- The score the kernel computes for query row `i` and key row `t` of head `h` of batch `b`. -/
def kS (fq fk : Vec Ideal S1024x2048 .bf16) (fqr : Vec Ideal S32x512x32 .bf16) (fkr : Vec Ideal S2x512x32 .bf16)
    (b : Fin 2) (h : Fin 16) (i t : Fin 512) : EReal :=
  (∑ d : Fin 128, fq (ix2 (row b i) ⟨h.val * 128 + d.val, by omega⟩) * fk (ix2 (row b t) ⟨h.val * 128 + d.val, by omega⟩))
    + ∑ d : Fin 32, fqr (ix3 ⟨16 * b.val + h.val, by omega⟩ i d) * fkr (ix3 b t d)

theorem blkS_at (m : Vec Ideal S1024x2048 .bf16) (b : Fin 2) (h : Fin 16) (i : Fin 512) (d : Fin 128) :
    blkS (F := Ideal) m b.val h.val (ix2 i d) = m (ix2 (row b i) ⟨h.val * 128 + d.val, by omega⟩) := by
  refine congrArg m (own2 ?_ ?_)
  · show (512 * b.val + i.val) % 1024 = 512 * b.val + i.val
    omega
  · show (128 * h.val + d.val) % 2048 = h.val * 128 + d.val
    omega

theorem oF_at (fq fk fv : Vec Ideal S1024x2048 .bf16) (fqr : Vec Ideal S32x512x32 .bf16) (fkr : Vec Ideal S2x512x32 .bf16)
    (b : Fin 2) (i : Fin 512) (n : Fin 2048) (h : Fin 16) (hh : h.val = n.val / 128) :
    oF (F := Ideal) fq fk fv fqr fkr (ix2 (row b i) n)
      = (∑ t, Ideal.exp (kS fq fk fqr fkr b h i t) * fv (ix2 (row b t) n)) * Ideal.div 1 (∑ t, Ideal.exp (kS fq fk fqr fkr b h i t)) := by
  have e1 : (row b i).val / 512 = b.val := by show (512 * b.val + i.val) / 512 = b.val; omega
  have e2 : (row b i).val % 512 = i.val := by show (512 * b.val + i.val) % 512 = i.val; omega
  have e : oF (F := Ideal) fq fk fv fqr fkr (ix2 (row b i) n)
      = headV (F := Ideal) fq fk fv fqr fkr b.val h.val (ix2 i ⟨n.val % 128, Nat.mod_lt _ (by decide)⟩) := by
    refine (congrArg₂ (fun u v => headV fq fk fv fqr fkr u v _) e1 hh.symm).trans ?_
    exact congrArg (headV fq fk fv fqr fkr b.val h.val) (own2 e2 rfl)
  rw [e]
  unfold headV
  refine (pay54_at _ _ _ _ _ _ (kS fq fk fqr fkr b h i) fun t => ?_).trans ?_
  · show kS fq fk fqr fkr b h i t = (∑ d : Fin 128, blkS fq b.val h.val (ix2 i d) * blkS fk b.val h.val (ix2 t d)) + _
    simp only [blkS_at]
    refine congrArg₂ (· + ·) rfl (Finset.sum_congr rfl fun d _ => ?_)
    refine congrArg₂ (· * ·) (congrArg fqr (own3 ?_ rfl rfl).symm) (congrArg fkr (own3 ?_ rfl rfl).symm)
    · show (16 * b.val + h.val) % 32 = 16 * b.val + h.val
      omega
    · show b.val % 2 = b.val
      omega
  · refine congrArg (· * _) (Finset.sum_congr rfl fun t _ => ?_)
    refine congrArg (Ideal.exp (kS fq fk fqr fkr b h i t) * ·) ?_
    show blkS fv b.val h.val (ix2 t ⟨n.val % 128, _⟩) = _
    rw [blkS_at]
    exact congrArg fv (ix2_congr rfl (show h.val * 128 + n.val % 128 = n.val by omega))

theorem outF_at (fo : Vec Ideal S1024x2048 .bf16) (wo : Vec Ideal S2048x2048 .f32) (b : Fin 2) (i : Fin 512) (n : Fin 2048) :
    outF (F := Ideal) fo wo (ix3 b i n) = ∑ k : Fin 2048, fo (ix2 (row b i) k) * wo (ix2 k n) := by
  refine (pay113_at _ _ _).trans (Finset.sum_congr rfl fun k _ => ?_)
  refine congrArg₂ (· * ·) (congrArg fo (own2 ?_ rfl)) (congrArg wo (own2 rfl ?_))
  · show (512 * b.val + i.val) % 1024 = 512 * b.val + i.val
    omega
  · show (512 * (n.val / 512) + n.val % 512) % 2048 = n.val
    omega

end Cert.KernelIdeal.MlaVal

end
-- ==== Proof.RefVal.lean ====
module

public import Idealize.ShloMosaic.Lib.Pointwise
public import proofs.«01_k».proof.Proof.Gen.ReferenceIdeal.Run

@[expose] public section

noncomputable section

namespace Cert.ReferenceIdeal.Mla

open Cert.ReferenceIdeal Cert.ReferenceIdeal.Gen
open Idealize.ShloMosaic
open Idealize.ShloMosaic.TcCoe

abbrev Arg (s : Shape) (e : EltTy) : Type := (⟨s, e⟩ : BufTy).Contents (Elt Ideal)

/-- The compressed rows. -/
def rC (x : Arg S2x512x2048 .f32) (wd : Arg S2048x256 .f32) : Arg S2x512x256 .f32 :=
  Host.dotGeneral (F := Ideal) (φ₁ := .f32) (φ₂ := .f32) dot_S2x512x2048_S2048x256_S2x512x256_2_0_01_1_n_n none x wd
/-- Compressed rows times an up projection, per head. -/
def rU (c : Arg S2x512x256 .f32) (wu : Arg S256x2048 .bf16) : Arg S2x512x16x128 .f32 :=
  shapeCast _ (Host.dotGeneral (F := Ideal) (φ₁ := .f32) (φ₂ := .f32) dot_S2x512x256_S256x2048_S2x512x2048_2_0_01_1_n_n none c (extf .f32 (F := Ideal) (φ := .bf16) wu bitsLt_bf16_f32)) shapeCasts_S2x512x2048_S2x512x16x128
/-- The queries, per head. -/
def rQ (x : Arg S2x512x2048 .f32) (wq : Arg S2048x2048 .f32) : Arg S2x512x16x128 .f32 :=
  shapeCast _ (Host.dotGeneral (F := Ideal) (φ₁ := .f32) (φ₂ := .f32) dot_S2x512x2048_S2048x2048_S2x512x2048_2_0_01_1_n_n none x wq) shapeCasts_S2x512x2048_S2x512x16x128
/-- The rotary queries, per head. -/
def rQr (x : Arg S2x512x2048 .f32) (w : Arg S2048x512 .f32) : Arg S2x512x16x32 .f32 :=
  shapeCast _ (Host.dotGeneral (F := Ideal) (φ₁ := .f32) (φ₂ := .f32) dot_S2x512x2048_S2048x512_S2x512x512_2_0_01_1_n_n none x w) shapeCasts_S2x512x512_S2x512x16x32
/-- The rotary keys, the same for every head. -/
def rKr (x : Arg S2x512x2048 .f32) (w : Arg S2048x32 .f32) : Arg S2x512x16x32 .f32 :=
  broadcastInDim S2x512x16x32 ![0, 1, 2, 3] bcast_S2x512x1x32_S2x512x16x32_0_1_2_3 (shapeCast _ (Host.dotGeneral (F := Ideal) (φ₁ := .f32) (φ₂ := .f32) dot_S2x512x2048_S2048x32_S2x512x32_2_0_01_1_n_n none x w) shapeCasts_S2x512x32_S2x512x1x32)
/-- The scaled scores. -/
def rS (q k : Arg S2x512x16x128 .f32) (qr kr : Arg S2x512x16x32 .f32) : Arg S2x16x512x512 .f32 :=
  mulf (addf (Host.dotGeneral (F := Ideal) (φ₁ := .f32) (φ₂ := .f32) dot_S2x512x16x128_S2x512x16x128_S2x16x512x512_3_3_1_1_02_02 none q k)
    (Host.dotGeneral (F := Ideal) (φ₁ := .f32) (φ₂ := .f32) dot_S2x512x16x32_S2x512x16x32_S2x16x512x512_3_3_1_1_02_02 none qr kr))
    (broadcastInDim S2x16x512x512 ![] bcast_S_S2x16x512x512 (Host.divf (F := Ideal) (φ := .f32) (constant S_ .f32 0x3F800000#32) (Host.sqrt (constant S_ .f32 0x43200000#32))))
/-- The weights before they are divided. -/
def rP (s : Arg S2x16x512x512 .f32) : Arg S2x16x512x512 .f32 :=
  Host.exp (F := Ideal) (φ := .f32) (subf s (broadcastInDim S2x16x512x512 ![0, 1, 2, 3] bcast_S2x16x512x1_S2x16x512x512_0_1_2_3
    (broadcastInDim S2x16x512x1 ![0, 1, 2] bcast_S2x16x512_S2x16x512x1_0_1_2
      (Host.reduce FloatOps.maximumf s (constant S_ .f32 0xFF800000#32) reducesTo_S2x16x512x512_S2x16x512_d3 h_S_))))
/-- The weights. -/
def rW (p : Arg S2x16x512x512 .f32) : Arg S2x16x512x512 .f32 :=
  Host.divf (F := Ideal) (φ := .f32) p (broadcastInDim S2x16x512x512 ![0, 1, 2, 3] bcast_S2x16x512x1_S2x16x512x512_0_1_2_3
    (broadcastInDim S2x16x512x1 ![0, 1, 2] bcast_S2x16x512_S2x16x512x1_0_1_2
      (Host.reduceAdd p (constant S_ .f32 0x00000000#32) reducesTo_S2x16x512x512_S2x16x512_d3 h_S_)))
/-- The heads' outputs side by side. -/
def rO (v : Arg S2x512x16x128 .f32) (w : Arg S2x16x512x512 .f32) : Arg S2x512x2048 .f32 :=
  shapeCast _ (transpose S2x512x16x128 [0, 3, 1, 2] (Host.dotGeneral (F := Ideal) (φ₁ := .f32) (φ₂ := .f32) dot_S2x512x16x128_S2x16x512x512_S2x16x128x512_1_3_3_2_02_01 none v w) transposes_S2x16x128x512_S2x512x16x128_0_3_1_2) shapeCasts_S2x512x16x128_S2x512x2048
/-- The output projection. -/
def rOut (o : Arg S2x512x2048 .f32) (wo : Arg S2048x2048 .f32) : Arg S2x512x2048 .bf16 :=
  truncf .bf16 (Host.dotGeneral (F := Ideal) (φ₁ := .f32) (φ₂ := .f32) dot_S2x512x2048_S2048x2048_S2x512x2048_2_0_01_1_n_n none o wo) bitsLt_bf16_f32

/-- What the reference leaves, stage by stage. -/
def refOut (x : Arg S2x512x2048 .f32) (wd : Arg S2048x256 .f32) (wk wv : Arg S256x2048 .bf16) (wq : Arg S2048x2048 .f32)
    (wqr : Arg S2048x512 .f32) (wkr : Arg S2048x32 .f32) (wo : Arg S2048x2048 .f32) : Arg S2x512x2048 .bf16 :=
  rOut (rO (rU (rC x wd) wv) (rW (rP (rS (rQ x wq) (rU (rC x wd) wk) (rQr x wqr) (rKr x wkr))))) wo

theorem res_eq (m : (ℓ : Loc nD τ sig) → Buf (Elt Ideal) ℓ) (c : Dev nD) :
    Value.res_main_v34 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  unfold Value.res_main_v34
  rfl

theorem rC_at (x : Arg S2x512x2048 .f32) (wd : Arg S2048x256 .f32) (b : Fin 2) (t : Fin 512) (j : Fin 256) :
    rC x wd (ix3 b t j) = ∑ d : Fin 2048, x (ix3 b t d) * wd (ix2 d j) := by
  pointwise [rC]
theorem rU_at (c : Arg S2x512x256 .f32) (wu : Arg S256x2048 .bf16) (b : Fin 2) (t : Fin 512) (h : Fin 16) (d : Fin 128) :
    rU c wu (ix4 b t h d) = ∑ j : Fin 256, c (ix3 b t j) * wu (ix2 j ⟨h * 128 + d, by omega⟩) := by
  pointwise [rU]
theorem rQ_at (x : Arg S2x512x2048 .f32) (wq : Arg S2048x2048 .f32) (b : Fin 2) (t : Fin 512) (h : Fin 16) (d : Fin 128) :
    rQ x wq (ix4 b t h d) = ∑ j : Fin 2048, x (ix3 b t j) * wq (ix2 j ⟨h * 128 + d, by omega⟩) := by
  pointwise [rQ]
theorem rQr_at (x : Arg S2x512x2048 .f32) (w : Arg S2048x512 .f32) (b : Fin 2) (t : Fin 512) (h : Fin 16) (d : Fin 32) :
    rQr x w (ix4 b t h d) = ∑ j : Fin 2048, x (ix3 b t j) * w (ix2 j ⟨h * 32 + d, by omega⟩) := by
  pointwise [rQr]
theorem rKr_at (x : Arg S2x512x2048 .f32) (w : Arg S2048x32 .f32) (b : Fin 2) (t : Fin 512) (h : Fin 16) (d : Fin 32) :
    rKr x w (ix4 b t h d) = ∑ j : Fin 2048, x (ix3 b t j) * w (ix2 j d) := by
  pointwise [rKr]
theorem rS_at (q k : Arg S2x512x16x128 .f32) (qr kr : Arg S2x512x16x32 .f32) (b : Fin 2) (h : Fin 16) (s t : Fin 512) :
    rS q k qr kr (ix4 b h s t) = ((∑ d : Fin 128, q (ix4 b s h d) * k (ix4 b t h d)) + ∑ d : Fin 32, qr (ix4 b s h d) * kr (ix4 b t h d))
      * Ideal.div 1 (Ideal.sqrt (Ideal.ofBits .f32 0x43200000#32)) := by
  pointwise [rS]
theorem rP_at (s : Arg S2x16x512x512 .f32) (b : Fin 2) (h : Fin 16) (i t : Fin 512) :
    rP s (ix4 b h i t) = Ideal.exp (s (ix4 b h i t) - Finset.univ.fold max (Ideal.ofBits .f32 0xFF800000#32) fun u : Fin 512 => s (ix4 b h i u)) := by
  pointwise [rP]
theorem rW_at (p : Arg S2x16x512x512 .f32) (b : Fin 2) (h : Fin 16) (i t : Fin 512) :
    rW p (ix4 b h i t) = Ideal.div (p (ix4 b h i t)) (∑ u : Fin 512, p (ix4 b h i u)) := by
  pointwise [rW]
theorem rO_at (v : Arg S2x512x16x128 .f32) (w : Arg S2x16x512x512 .f32) (b : Fin 2) (i : Fin 512) (n : Fin 2048) :
    rO v w (ix3 b i n) = ∑ t : Fin 512, v (ix4 b t ⟨n / 128, by omega⟩ ⟨n % 128, by omega⟩) * w (ix4 b ⟨n / 128, by omega⟩ i t) := by
  pointwise [rO]
theorem rOut_at (o : Arg S2x512x2048 .f32) (wo : Arg S2048x2048 .f32) (b : Fin 2) (i : Fin 512) (n : Fin 2048) :
    rOut o wo (ix3 b i n) = ∑ k : Fin 2048, o (ix3 b i k) * wo (ix2 k n) := by
  pointwise [rOut]

end Cert.ReferenceIdeal.Mla

end
-- ==== Proof.Value.lean ====
module

public import proofs.«01_k».proof.Proof.KerVal2
public import proofs.«01_k».proof.Proof.RefVal

@[expose] public section

noncomputable section

namespace Cert.KernelIdeal.MlaVal

open Cert.KernelIdeal Cert.KernelIdeal.Gen
open Cert.KernelIdeal.Mla hiding ix2 ix3
open Cert.ReferenceIdeal.Mla (rC rU rQ rQr rKr rS rP rW rO rOut refOut)

open Idealize.ShloMosaic

theorem scl_real : ∃ r : ℝ, 0 ≤ r ∧ scl = (r : EReal) := ⟨(Real.sqrt 160)⁻¹, inv_nonneg.2 (Real.sqrt_nonneg _), rfl⟩
theorem root_eq : Ideal.ofBits .f32 0x43200000#32 = ((160 : ℝ) : EReal) := by
  simp [Ideal.ofBits, Ideal.ieee, -EReal.coe_mul]; norm_num
/-- The reference's factor, a root taken and inverted, is the kernel's. -/
theorem factor_eq : Ideal.div 1 (Ideal.sqrt (Ideal.ofBits .f32 0x43200000#32)) = scl := by
  rw [root_eq, Ideal.sqrt_coe, if_neg (by norm_num), Ideal.div_coe (Real.sqrt_pos.mpr (by norm_num)).ne', one_mul, one_div]
  rfl
theorem high_eq : Ideal.ofBits .f32 0x7F800000#32 = ⊤ := by
  simp [Ideal.ofBits, Ideal.ieee]
theorem low_eq : Ideal.ofBits .f32 0xFF800000#32 = ⊥ := by
  simp [Ideal.ofBits, Ideal.ieee]

variable (x : Vec Ideal S2x512x2048 .f32) (wd : Vec Ideal Cert.ReferenceIdeal.S2048x256 .f32) (wk wv : Vec Ideal S256x2048 .bf16)
  (wq wo : Vec Ideal S2048x2048 .f32) (wqr : Vec Ideal S2048x512 .f32) (wkr : Vec Ideal S2048x32 .f32)

/-- Every score of the reference is a real number when what it is made of is. -/
theorem score_real (hx : ∀ i, IsReal (x i)) (hd : ∀ i, IsReal (wd i)) (hk : ∀ i, IsReal (wk i)) (hq : ∀ i, IsReal (wq i))
    (hqr : ∀ i, IsReal (wqr i)) (hkr : ∀ i, IsReal (wkr i)) (b : Fin 2) (h : Fin 16) (i t : Fin 512) :
    IsReal (rS (rQ x wq) (rU (rC x wd) wk) (rQr x wqr) (rKr x wkr) (ix4 b h i t)) := by
  obtain ⟨r, -, hr⟩ := scl_real
  simp only [Cert.ReferenceIdeal.Mla.rS_at, Cert.ReferenceIdeal.Mla.rQ_at, Cert.ReferenceIdeal.Mla.rU_at, Cert.ReferenceIdeal.Mla.rC_at,
    Cert.ReferenceIdeal.Mla.rQr_at, Cert.ReferenceIdeal.Mla.rKr_at, factor_eq]
  refine ((isReal_sum fun d => ?_).add (isReal_sum fun d => ?_)).mul ⟨r, hr⟩
  · exact (isReal_sum fun j => (hx _).mul (hq _)).mul (isReal_sum fun j => (isReal_sum fun e => (hx _).mul (hd _)).mul (hk _))
  · exact (isReal_sum fun j => (hx _).mul (hqr _)).mul (isReal_sum fun j => (hx _).mul (hkr _))

/-- Up projections of the compressed rows, on both sides. -/
theorem up_eq (C : Vec Ideal S1024x256 .bf16) (hC : ∀ r j, C (ix2 r j) = ∑ d : Fin 2048, k0_pay2 (F := Ideal) x (ix2 r d) * wd (ix2 d j))
    (w : Vec Ideal S256x2048 .bf16) (b : Fin 2) (t : Fin 512) (h : Fin 16) (d : Fin 128) :
    ∑ j : Fin 256, C (ix2 (row b t) j) * w (ix2 j ⟨h.val * 128 + d.val, by omega⟩) = rU (rC x wd) w (ix4 b t h d) := by
  rw [Cert.ReferenceIdeal.Mla.rU_at]
  refine Finset.sum_congr rfl fun j _ => congrArg (· * _) ?_
  rw [hC, Cert.ReferenceIdeal.Mla.rC_at]
  exact Finset.sum_congr rfl fun e _ => congrArg (· * _) (xb_at x b t e)

theorem score_eq (C : Vec Ideal S1024x256 .bf16) (hC : ∀ r j, C (ix2 r j) = ∑ d : Fin 2048, k0_pay2 (F := Ideal) x (ix2 r d) * wd (ix2 d j))
    (b : Fin 2) (h : Fin 16) (i t : Fin 512) :
    kS (qF (k0_pay2 (F := Ideal) x) wq) (k0_pay52 C wk) (qrF (k0_pay2 (F := Ideal) x) wqr) (krF (k0_pay2 (F := Ideal) x) wkr) b h i t
      = rS (rQ x wq) (rU (rC x wd) wk) (rQr x wqr) (rKr x wkr) (ix4 b h i t) := by
  obtain ⟨r, h0, hr⟩ := scl_real
  rw [Cert.ReferenceIdeal.Mla.rS_at, factor_eq]
  refine Eq.trans ?_ ((scale_sums h0 _ _ _ _).trans (congrArg (_ * ·) hr.symm))
  unfold kS
  rw [← hr]
  refine congrArg₂ (· + ·) (Finset.sum_congr rfl fun d _ => ?_) (Finset.sum_congr rfl fun d _ => ?_)
  · refine congrArg₂ (· * ·) ?_ ?_
    · rw [qF_at, Cert.ReferenceIdeal.Mla.rQ_at]
      exact congrArg (· * scl) (Finset.sum_congr rfl fun e _ => congrArg (· * _) (xb_at x b i e))
    · exact (pay52_at C wk _).trans (up_eq x wd C hC wk b t h d)
  · refine congrArg₂ (· * ·) ?_ ?_
    · rw [qrF_at, Cert.ReferenceIdeal.Mla.rQr_at]
      exact congrArg (· * scl) (Finset.sum_congr rfl fun e _ => congrArg (· * _) (xb_at x b i e))
    · rw [krF_at, Cert.ReferenceIdeal.Mla.rKr_at]
      exact Finset.sum_congr rfl fun e _ => congrArg (· * _) (xb_at x b t e)

/-- The kernel's result and the reference's. -/
theorem out_eq (C : Vec Ideal S1024x256 .bf16) (hC : ∀ r j, C (ix2 r j) = ∑ d : Fin 2048, k0_pay2 (F := Ideal) x (ix2 r d) * wd (ix2 d j))
    (hx : ∀ i, IsReal (x i)) (hd : ∀ i, IsReal (wd i)) (hk : ∀ i, IsReal (wk i)) (hq : ∀ i, IsReal (wq i))
    (hqr : ∀ i, IsReal (wqr i)) (hkr : ∀ i, IsReal (wkr i)) :
    outF (oF (qF (k0_pay2 (F := Ideal) x) wq) (k0_pay52 C wk) (k0_pay53 C wv) (qrF (k0_pay2 (F := Ideal) x) wqr) (krF (k0_pay2 (F := Ideal) x) wkr)) wo
      = refOut x wd wk wv wq wqr wkr wo := by
  funext i
  obtain ⟨b, i, n, rfl⟩ : ∃ b i' n, i = ix3 b i' n := ⟨i 0, i 1, i 2, by funext l; match l with | ⟨0, _⟩ => rfl | ⟨1, _⟩ => rfl | ⟨2, _⟩ => rfl⟩
  rw [outF_at]
  unfold refOut
  rw [Cert.ReferenceIdeal.Mla.rOut_at]
  refine Finset.sum_congr rfl fun k _ => congrArg (· * _) ?_
  rw [oF_at _ _ _ _ _ b i k ⟨k.val / 128, by omega⟩ rfl, Cert.ReferenceIdeal.Mla.rO_at]
  simp only [Cert.ReferenceIdeal.Mla.rW_at, Cert.ReferenceIdeal.Mla.rP_at, score_eq x wd wk wq wqr wkr C hC, low_eq]
  refine Eq.trans ?_ (softmax_row (by decide) _ (fun t => score_real x wd wk wq wqr wkr hx hd hk hq hqr hkr b _ i t) _)
  refine congrArg (· * _) (Finset.sum_congr rfl fun t _ => congrArg (HMul.hMul _) ?_)
  refine (pay53_at C wv _).trans (Eq.trans (Finset.sum_congr rfl fun j _ => ?_) (up_eq x wd C hC wv b t ⟨k.val / 128, by omega⟩ ⟨k.val % 128, by omega⟩))
  exact congrArg₂ (· * ·) (congrArg C (ix2_congr rfl rfl)) (congrArg wv (ix2_congr rfl (show k.val = k.val / 128 * 128 + k.val % 128 by omega)))

end Cert.KernelIdeal.MlaVal

end
-- ==== Proof.Algebraic.lean ====
module

public import proofs.«01_k».proof.Proof.Value
public import proofs.«01_k».proof.Proof.Frames
public import proofs.«01_k».proof.Proof.Gen.Pre_finite_scores_KernelIdeal

@[expose] public section

noncomputable section

namespace Cert.KernelIdeal.MlaVal

open Cert.KernelIdeal Cert.KernelIdeal.Gen
open Cert.KernelIdeal.Mla hiding ix2 ix3
open Cert.ReferenceIdeal.Mla (refOut res_eq)

open Idealize.ShloMosaic
open Idealize.ShloMosaic.TcCoe
open Idealize.SL.Sem

/-- An array whose flags all say that its magnitudes lie below infinity holds real numbers. -/
theorem real_of_flags {n : ℕ} {d : Fin n → ℕ} (x : FVec Ideal ⟨n, d⟩ .f32)
    (hb : Cert.Pre_finite_scores_KernelIdeal.S_.BroadcastsInDim ⟨n, d⟩ (![] : Fin 0 → Fin (⟨n, d⟩ : Shape).rank))
    (h : cmpf .olt (Host.absf x) (broadcastInDim ⟨n, d⟩ ![] hb (constant Cert.Pre_finite_scores_KernelIdeal.S_ .f32 0x7F800000#32)) = fun _ => 1#1) (i : (⟨n, d⟩ : Shape).Idx) :
    IsReal (x i) := by
  have h := congrFun h i
  revert h
  pointwise
  rw [high_eq]
  intro h
  have h' : max (x i) (-(x i)) < ⊤ := by
    by_contra hn
    have : BitVec.ofBool (decide (max (x i) (-(x i)) < ⊤)) = 1#1 := h
    rw [decide_eq_false hn] at this
    exact absurd this (by decide)
  exact isReal_of_abs_lt h'

theorem yb_holder (c : Dev nD) {k : ℕ} (hk : k < 2) : yb (holder c k) = k := by
  unfold holder
  have := yb_lt c
  split
  · exact (‹k = yb c›).symm
  · rw [yb_ptn]; omega

theorem linY (c : Dev nD) : Layout.meshLin [2, 2, 4] c.val [1] = yb c := by
  revert c; decide

variable (m : (ℓ : Loc nD τ sig) → Buf (Elt Ideal) ℓ)

/-- The rows of an up projection, held half by half, stacked. -/
theorem stack_rows (W : Dev nD → Vec Ideal S128x2048 .bf16) (w : Vec Ideal S256x2048 .bf16)
    (h : ∀ c, W c = Layout.blockN ⟨2, ![128, 2048]⟩ ⟨2, ![256, 2048]⟩ (Layout.meshBlock [2, 2, 4] ![[1], []] c) w) (c : Dev nD) :
    stackU (F := Ideal) W c = w := by
  funext i
  have hi : (i 0).val < 256 := (i 0).isLt
  show W (holder c ((i 0).val / 128)) _ = _
  rw [h]
  refine congrArg w (funext fun l => Fin.ext ?_)
  rw [Layout.TilesN.idx_val]
  match l with
  | ⟨0, _⟩ =>
    show Layout.meshLin [2, 2, 4] (holder c ((i 0).val / 128)).val [1] * 128 + (i 0).val % 128 = (i 0).val
    rw [linY, yb_holder c (by omega)]
    omega
  | ⟨1, _⟩ =>
    show 0 * 2048 + (i 1).val = (i 1).val
    omega

/-- The columns of the compression, each device's half read off the whole matrix. -/
theorem half_cols (d : Dev nD) (w0 : Vec Ideal S2048x128 .f32) (wd : Vec Ideal Cert.ReferenceIdeal.S2048x256 .f32)
    (h : w0 = Layout.blockN ⟨2, ![2048, 128]⟩ ⟨2, ![2048, 256]⟩ (Layout.meshBlock [2, 2, 4] ![[], [1]] d) wd)
    (e : Fin 2048) (j : Fin 128) : w0 (ix2 e j) = wd (ix2 e ⟨yb d * 128 + j.val, by have := yb_lt d; omega⟩) := by
  rw [h]
  refine congrArg wd (funext fun l => Fin.ext ?_)
  rw [Layout.TilesN.idx_val]
  match l with
  | ⟨0, _⟩ =>
    show 0 * 2048 + e.val = e.val
    omega
  | ⟨1, _⟩ =>
    show Layout.meshLin [2, 2, 4] d.val [1] * 128 + j.val = yb d * 128 + j.val
    rw [linY]

theorem stack_cols (x : Vec Ideal S2x512x2048 .f32) (wd : Vec Ideal Cert.ReferenceIdeal.S2048x256 .f32) (hx : ∀ c, xA m c = x)
    (h : ∀ c, wdA m c = Layout.blockN ⟨2, ![2048, 128]⟩ ⟨2, ![2048, 256]⟩ (Layout.meshBlock [2, 2, 4] ![[], [1]] c) wd) (c : Dev nD)
    (r : Fin 1024) (j : Fin 256) :
    stackC (wcA m) c (ix2 r j) = ∑ e : Fin 2048, k0_pay2 (F := Ideal) x (ix2 r e) * wd (ix2 e j) := by
  show k0_pay3 (k0_pay2 (xA m (holder c (j.val / 128)))) (wdA m (holder c (j.val / 128))) _ = _
  rw [pay3_at, hx]
  refine Finset.sum_congr rfl fun e _ => congrArg₂ (· * ·) (congrArg _ (ix2_congr rfl rfl)) ?_
  refine (half_cols _ _ wd (h _) e _).trans (congrArg wd (ix2_congr rfl ?_))
  show yb (holder c (j.val / 128)) * 128 + j.val % 128 = j.val
  rw [yb_holder c (by omega)]
  omega

/-- Every entry of a matrix cut by columns is an entry of some device's half. -/
theorem real_of_halves (W : Dev nD → Vec Ideal S2048x128 .f32) (wd : Vec Ideal Cert.ReferenceIdeal.S2048x256 .f32)
    (h : ∀ c, W c = Layout.blockN ⟨2, ![2048, 128]⟩ ⟨2, ![2048, 256]⟩ (Layout.meshBlock [2, 2, 4] ![[], [1]] c) wd)
    (hr : ∀ c i, IsReal (W c i)) (i : Cert.ReferenceIdeal.S2048x256.Idx) : IsReal (wd i) := by
  have hi : (i 1).val < 256 := (i 1).isLt
  have e : wd i = W (holder 0 ((i 1).val / 128)) (ix2 (i 0) ⟨(i 1).val % 128, Nat.mod_lt _ (by decide)⟩) := by
    refine Eq.trans (congrArg wd ?_) (half_cols _ _ wd (h _) (i 0) ⟨(i 1).val % 128, Nat.mod_lt _ (by decide)⟩).symm
    funext l
    match l with
    | ⟨0, _⟩ => rfl
    | ⟨1, _⟩ =>
      refine Fin.ext (show (i 1).val = yb (holder 0 ((i 1).val / 128)) * 128 + (i 1).val % 128 from ?_)
      rw [yb_holder 0 (by omega)]
      omega
  rw [e]
  exact hr _ _
theorem real_of_rows (W : Dev nD → Vec Ideal S128x2048 .bf16) (w : Vec Ideal S256x2048 .bf16)
    (h : ∀ c, W c = Layout.blockN ⟨2, ![128, 2048]⟩ ⟨2, ![256, 2048]⟩ (Layout.meshBlock [2, 2, 4] ![[1], []] c) w)
    (hr : ∀ c i, IsReal (W c i)) (i : S256x2048.Idx) : IsReal (w i) := by
  rw [← stack_rows W w h 0]
  exact hr _ _

theorem algebraic : Cert.algebraic_KernelIdeal_ReferenceIdeal_pre_finite_scores_KernelIdeal := by
  intro m g m' g' hp ha
  refine ⟨Cert.ReferenceIdeal.Value.res_main_v34 m' 0, ?_, (θ_run Cert.ReferenceIdeal.defs _ _).mono (fun _ h => h 0) (Cert.ReferenceIdeal.Value.run (F := Ideal) m' g')⟩
  refine (θ_run Cert.KernelIdeal.defs _ _).mono (fun r h c => ?_) (value_run (F := Ideal) m g)
  obtain ⟨hv, hk⟩ := h c
  refine ⟨hv.trans ?_, hk⟩
  rw [res_eq]
  have p0 := real_of_flags (m ((0 : Dev nD).tc.loc main_arg0)) _ (hp 0).1
  have p1 := fun c : Dev nD => real_of_flags (m (c.tc.loc main_arg1)) _ (hp c).2.1
  have p2 := fun c : Dev nD => real_of_flags (extf .f32 (F := Ideal) (φ := .bf16) (m (c.tc.loc main_arg2)) _) _ (hp c).2.2.1
  have p4 := real_of_flags (m ((0 : Dev nD).tc.loc main_arg4)) _ (hp 0).2.2.2.1
  have p5 := real_of_flags (m ((0 : Dev nD).tc.loc main_arg5)) _ (hp 0).2.2.2.2.1
  have p6 := real_of_flags (m ((0 : Dev nD).tc.loc main_arg6)) _ (hp 0).2.2.2.2.2
  rw [(ha 0).1] at p0
  rw [(ha 0).2.2.2.2.1] at p4
  rw [(ha 0).2.2.2.2.2.1] at p5
  rw [(ha 0).2.2.2.2.2.2.1] at p6
  have q1 := real_of_halves (wdA m) _ (fun c => (ha c).2.1) p1
  have q2 := real_of_rows (wkA m) _ (fun c => (ha c).2.2.1) p2
  have hx : ∀ c, xA m c = _ := fun c => (ha c).1
  unfold outA
  rw [hx c, stack_rows (wkA m) _ (fun c => (ha c).2.2.1) c, stack_rows (wvA m) _ (fun c => (ha c).2.2.2.1) c,
    show wqA m c = _ from (ha c).2.2.2.2.1, show wqrA m c = _ from (ha c).2.2.2.2.2.1, show wkrA m c = _ from (ha c).2.2.2.2.2.2.1,
    show woA m c = _ from (ha c).2.2.2.2.2.2.2]
  exact out_eq _ _ _ _ _ _ _ _ _ (stack_cols m _ _ hx (fun c => (ha c).2.1) c) p0 q1 q2 p4 p5 p6

end Cert.KernelIdeal.MlaVal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  Cert.KernelIdeal.Mla.frame_kernel, Cert.KernelIdeal.Mla.frame_ideal, fun m g _ => Cert.KernelIdeal.Mla.frame_ideal m g trivial,
  Cert.KernelIdeal.Mla.frame_reference, fun m g _ => Cert.KernelIdeal.Mla.frame_reference m g trivial, Cert.KernelIdeal.Mla.preserves_named,
  Cert.KernelIdeal.MlaVal.algebraic⟩

end Cert.Proof

end
